-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_outer_weights_finite [hPre_outer_weights_finite : Cert.Pre_outer_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_outer_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_outer_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_outer_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_outer_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_outer_weights_finite [hPre_outer_weights_finite : Cert.Pre_outer_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_outer_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_outer_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_outer_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_outer_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_outer_weights_finite [hKernelIdeal : Cert.KernelIdeal.Facts] [hPre_outer_weights_finite : Cert.Pre_outer_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_outer_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_outer_weights_finite [hReferenceIdeal : Cert.ReferenceIdeal.Facts] [hPre_outer_weights_finite : Cert.Pre_outer_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_outer_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_outer_weights_finite [hKernelIdeal : Cert.KernelIdeal.Facts] [hReferenceIdeal : Cert.ReferenceIdeal.Facts] [hPre_outer_weights_finite : Cert.Pre_outer_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_outer_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v3_1)) (v4 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_v4_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v226) = v2 c
          ∧ r.2.mem ((c.tc : Thread Cert.ReferenceIdeal.nD Cert.ReferenceIdeal.τ).loc Cert.ReferenceIdeal.main_v250) = v3 c
          ∧ r.2.mem ((c.tc : Thread Cert.ReferenceIdeal.nD Cert.ReferenceIdeal.τ).loc Cert.ReferenceIdeal.main_v304) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_outer_weights_finite : Cert.Pre_outer_weights_finite.Facts),
    quiescent_Kernel (hKernel := hKernel)
    ∧ quiescent_KernelIdeal (hKernelIdeal := hKernelIdeal)
    ∧ quiescent_KernelIdeal_pre_outer_weights_finite (hKernelIdeal := hKernelIdeal) (hPre_outer_weights_finite := hPre_outer_weights_finite)
    ∧ quiescent_ReferenceIdeal (hReferenceIdeal := hReferenceIdeal)
    ∧ quiescent_ReferenceIdeal_pre_outer_weights_finite (hReferenceIdeal := hReferenceIdeal) (hPre_outer_weights_finite := hPre_outer_weights_finite)
    ∧ preserves_Kernel_KernelIdeal
    ∧ algebraic_KernelIdeal_ReferenceIdeal_pre_outer_weights_finite (hKernelIdeal := hKernelIdeal) (hReferenceIdeal := hReferenceIdeal) (hPre_outer_weights_finite := hPre_outer_weights_finite)
-- ==== Pre_outer_weights_finite.lean ====
abbrev S65536x512 : Shape := ⟨2, ![65536, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x3 : Shape := ⟨2, ![128, 3]⟩
abbrev S3 : Shape := ⟨1, ![3]⟩
abbrev S3x128 : Shape := ⟨2, ![3, 128]⟩
abbrev S128x256 : Shape := ⟨2, ![128, 256]⟩
abbrev S256x512 : Shape := ⟨2, ![256, 512]⟩
abbrev S512 : Shape := ⟨1, ![512]⟩
abbrev S22x3 : Shape := ⟨2, ![22, 3]⟩
abbrev S_ : Shape := ⟨0, ![]⟩

class Facts : Prop where
  bcast_S_S512x256 : S_.BroadcastsInDim S512x256 (![] : Fin 0 → Fin S512x256.rank)
  bcast_S_S128x3 : S_.BroadcastsInDim S128x3 (![] : Fin 0 → Fin S128x3.rank)
  bcast_S_S3x128 : S_.BroadcastsInDim S3x128 (![] : Fin 0 → Fin S3x128.rank)
  bcast_S_S256x512 : S_.BroadcastsInDim S256x512 (![] : Fin 0 → Fin S256x512.rank)

variable [Facts]

def fn {F : FTy → Type} [FloatOps F] (main_arg0 : FVec F S65536x512 .f32) (main_arg1 : FVec F S65536x512 .f32) (main_arg2 : FVec F S65536x512 .f32) (main_arg3 : FVec F S512x256 .f32) (main_arg4 : FVec F S256 .f32) (main_arg5 : FVec F S256x128 .f32) (main_arg6 : FVec F S128 .f32) (main_arg7 : FVec F S128x3 .f32) (main_arg8 : FVec F S3 .f32) (main_arg9 : FVec F S3x128 .f32) (main_arg10 : FVec F S128 .f32) (main_arg11 : FVec F S128x256 .f32) (main_arg12 : FVec F S256 .f32) (main_arg13 : FVec F S256x512 .f32) (main_arg14 : FVec F S512 .f32) (main_arg15 : FVec F S22x3 .f32) (main_arg16 : FVec F S3 .f32) : IVec S512x256 1 × IVec S128x3 1 × IVec S3x128 1 × IVec S256x512 1 :=
  let main_v0 : FVec F S512x256 .f32 := Host.absf main_arg3
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S128x3 .f32 := Host.absf main_arg7
  let main_cst_0 : FVec F S_ .f32 := constant S_ .f32 0x7F800000#32
  let main_v4 : FVec F S128x3 .f32 := broadcastInDim S128x3 ![] bcast_S_S128x3 main_cst_0
  let main_v5 : IVec S128x3 1 := cmpf .olt main_v3 main_v4
  let main_v6 : FVec F S3x128 .f32 := Host.absf main_arg9
  let main_cst_1 : FVec F S_ .f32 := constant S_ .f32 0x7F800000#32
  let main_v7 : FVec F S3x128 .f32 := broadcastInDim S3x128 ![] bcast_S_S3x128 main_cst_1
  let main_v8 : IVec S3x128 1 := cmpf .olt main_v6 main_v7
  let main_v9 : FVec F S256x512 .f32 := Host.absf main_arg13
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  (main_v2, main_v5, main_v8, main_v11)
-- ==== Kernel.lean ====
abbrev S65536x512 : Shape := ⟨2, ![65536, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x3 : Shape := ⟨2, ![128, 3]⟩
abbrev S3 : Shape := ⟨1, ![3]⟩
abbrev S3x128 : Shape := ⟨2, ![3, 128]⟩
abbrev S128x256 : Shape := ⟨2, ![128, 256]⟩
abbrev S256x512 : Shape := ⟨2, ![256, 512]⟩
abbrev S512 : Shape := ⟨1, ![512]⟩
abbrev S22x3 : Shape := ⟨2, ![22, 3]⟩
abbrev S3x3x22 : Shape := ⟨3, ![3, 3, 22]⟩
abbrev S3x22 : Shape := ⟨2, ![3, 22]⟩
abbrev S3x22x1 : Shape := ⟨3, ![3, 22, 1]⟩
abbrev S3x1 : Shape := ⟨2, ![3, 1]⟩
abbrev S3x65536 : Shape := ⟨2, ![3, 65536]⟩
abbrev S1x256x128 : Shape := ⟨3, ![1, 256, 128]⟩
abbrev S1x128x256 : Shape := ⟨3, ![1, 128, 256]⟩
abbrev S4096x512 : Shape := ⟨2, ![4096, 512]⟩
abbrev S3x4096 : Shape := ⟨2, ![3, 4096]⟩
abbrev S4096x256 : Shape := ⟨2, ![4096, 256]⟩
abbrev S1x256 : Shape := ⟨2, ![1, 256]⟩
abbrev S4096x128 : Shape := ⟨2, ![4096, 128]⟩
abbrev S1x128 : Shape := ⟨2, ![1, 128]⟩
abbrev S1x3x22 : Shape := ⟨3, ![1, 3, 22]⟩
abbrev S22x4096 : Shape := ⟨2, ![22, 4096]⟩
abbrev S1x22x1 : Shape := ⟨3, ![1, 22, 1]⟩
abbrev S22x1 : Shape := ⟨2, ![22, 1]⟩
abbrev S1x512 : Shape := ⟨2, ![1, 512]⟩
abbrev S512x3 : Shape := ⟨2, ![512, 3]⟩
abbrev S3x512 : Shape := ⟨2, ![3, 512]⟩
abbrev S256x3 : Shape := ⟨2, ![256, 3]⟩
abbrev S3x256 : Shape := ⟨2, ![3, 256]⟩
abbrev S65536x3 : Shape := ⟨2, ![65536, 3]⟩

abbrev nBuf : Space → Nat
  | .hbm => 34
  | .vmem => 44
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x3, .f32⟩
  | .hbm, ⟨8, _⟩ => ⟨S3, .f32⟩
  | .hbm, ⟨9, _⟩ => ⟨S3x128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256x512, .f32⟩
  | .hbm, ⟨14, _⟩ => ⟨S512, .f32⟩
  | .hbm, ⟨15, _⟩ => ⟨S22x3, .f32⟩
  | .hbm, ⟨16, _⟩ => ⟨S3, .f32⟩
  | .hbm, ⟨17, _⟩ => ⟨S3x3x22, .f32⟩
  | .hbm, ⟨18, _⟩ => ⟨S3x22, .f32⟩
  | .hbm, ⟨19, _⟩ => ⟨S3x22x1, .f32⟩
  | .hbm, ⟨20, _⟩ => ⟨S3x1, .f32⟩
  | .hbm, ⟨21, _⟩ => ⟨S3x1, .f32⟩
  | .hbm, ⟨22, _⟩ => ⟨S3x65536, .f32⟩
  | .hbm, ⟨23, _⟩ => ⟨S65536x512, .f32⟩
  | .hbm, ⟨24, _⟩ => ⟨S3x65536, .f32⟩
  | .hbm, ⟨25, _⟩ => ⟨S1x256x128, .f32⟩
  | .hbm, ⟨26, _⟩ => ⟨S1x128x256, .f32⟩
  | .hbm, ⟨27, _⟩ => ⟨S3x65536, .f32⟩
  | .hbm, ⟨28, _⟩ => ⟨S65536x512, .f32⟩
  | .hbm, ⟨29, _⟩ => ⟨S512x3, .f32⟩
  | .hbm, ⟨30, _⟩ => ⟨S3x512, .f32⟩
  | .hbm, ⟨31, _⟩ => ⟨S65536x3, .f32⟩
  | .hbm, ⟨32, _⟩ => ⟨S65536x3, .f32⟩
  | .hbm, ⟨33, _⟩ => ⟨S65536x3, .f32⟩
  | .local _ .vmem, ⟨0, _⟩ => ⟨S4096x512, .f32⟩
  | .local _ .vmem, ⟨1, _⟩ => ⟨S4096x512, .f32⟩
  | .local _ .vmem, ⟨2, _⟩ => ⟨S512x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S128x3, .f32⟩
  | .local _ .vmem, ⟨7, _⟩ => ⟨S3x1, .f32⟩
  | .local _ .vmem, ⟨8, _⟩ => ⟨S3x128, .f32⟩
  | .local _ .vmem, ⟨9, _⟩ => ⟨S128, .f32⟩
  | .local _ .vmem, ⟨10, _⟩ => ⟨S128x256, .f32⟩
  | .local _ .vmem, ⟨11, _⟩ => ⟨S256, .f32⟩
  | .local _ .vmem, ⟨12, _⟩ => ⟨S256x512, .f32⟩
  | .local _ .vmem, ⟨13, _⟩ => ⟨S512, .f32⟩
  | .local _ .vmem, ⟨14, _⟩ => ⟨S22x3, .f32⟩
  | .local _ .vmem, ⟨15, _⟩ => ⟨S3x1, .f32⟩
  | .local _ .vmem, ⟨16, _⟩ => ⟨S3x3x22, .f32⟩
  | .local _ .vmem, ⟨17, _⟩ => ⟨S3x22x1, .f32⟩
  | .local _ .vmem, ⟨18, _⟩ => ⟨S3x4096, .f32⟩
  | .local _ .vmem, ⟨19, _⟩ => ⟨S3x4096, .f32⟩
  | .local _ .vmem, ⟨20, _⟩ => ⟨S4096x512, .f32⟩
  | .local _ .vmem, ⟨21, _⟩ => ⟨S4096x512, .f32⟩
  | .local _ .vmem, ⟨22, _⟩ => ⟨S3x4096, .f32⟩
  | .local _ .vmem, ⟨23, _⟩ => ⟨S3x4096, .f32⟩
  | .local _ .vmem, ⟨24, _⟩ => ⟨S1x256x128, .f32⟩
  | .local _ .vmem, ⟨25, _⟩ => ⟨S1x128x256, .f32⟩
  | .local _ .vmem, ⟨26, _⟩ => ⟨S4096x512, .f32⟩
  | .local _ .vmem, ⟨27, _⟩ => ⟨S4096x512, .f32⟩
  | .local _ .vmem, ⟨28, _⟩ => ⟨S3x4096, .f32⟩
  | .local _ .vmem, ⟨29, _⟩ => ⟨S3x4096, .f32⟩
  | .local _ .vmem, ⟨30, _⟩ => ⟨S1x256x128, .f32⟩
  | .local _ .vmem, ⟨31, _⟩ => ⟨S1x128x256, .f32⟩
  | .local _ .vmem, ⟨32, _⟩ => ⟨S512x256, .f32⟩
  | .local _ .vmem, ⟨33, _⟩ => ⟨S256x128, .f32⟩
  | .local _ .vmem, ⟨34, _⟩ => ⟨S128x3, .f32⟩
  | .local _ .vmem, ⟨35, _⟩ => ⟨S3x128, .f32⟩
  | .local _ .vmem, ⟨36, _⟩ => ⟨S128x256, .f32⟩
  | .local _ .vmem, ⟨37, _⟩ => ⟨S256x512, .f32⟩
  | .local _ .vmem, ⟨38, _⟩ => ⟨S3x4096, .f32⟩
  | .local _ .vmem, ⟨39, _⟩ => ⟨S3x4096, .f32⟩
  | .local _ .vmem, ⟨40, _⟩ => ⟨S4096x512, .f32⟩
  | .local _ .vmem, ⟨41, _⟩ => ⟨S4096x512, .f32⟩
  | .local _ .vmem, ⟨42, _⟩ => ⟨S512x3, .f32⟩
  | .local _ .vmem, ⟨43, _⟩ => ⟨S3x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_cst_0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3_0 : Ref sig .tc := ⟨.hbm, 22, rfl⟩
abbrev main_v3_1 : Ref sig .tc := ⟨.hbm, 23, rfl⟩
abbrev main_v3_2 : Ref sig .tc := ⟨.hbm, 24, rfl⟩
abbrev main_v3_3 : Ref sig .tc := ⟨.hbm, 25, rfl⟩
abbrev main_v3_4 : Ref sig .tc := ⟨.hbm, 26, rfl⟩
abbrev main_v4_0 : Ref sig .tc := ⟨.hbm, 27, rfl⟩
abbrev main_v4_1 : Ref sig .tc := ⟨.hbm, 28, rfl⟩
abbrev main_v4_2 : Ref sig .tc := ⟨.hbm, 29, rfl⟩
abbrev main_v4_3 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg21_0 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg13_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem21_0 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem3_0 : DmaSem sig := 31
abbrev cc1_sem4_0 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem9_0 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem13_0 : DmaSem sig := 43

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v53 : BitVec 1 := Scalar.cmpi .eq arg1 c0_i32
  let v54 : BitVec 32 := Scalar.extui v53
  let c0_i32_26 : BitVec 32 := 0#32
  let v55 : BitVec 1 := Scalar.cmpi .ne v54 c0_i32_26
  v55

def k0_cond2 (i : grid0.Coords) : BitVec 1 :=
  let arg1 : BitVec 32 := BitVec.ofNat 32 (i 1).val
  let c0_i32_27 : BitVec 32 := 0#32
  let v56 : BitVec 1 := Scalar.cmpi .ne arg1 c0_i32_27
  let v57 : BitVec 32 := Scalar.extui v56
  let c0_i32_28 : BitVec 32 := 0#32
  let v58 : BitVec 1 := Scalar.cmpi .ne v57 c0_i32_28
  v58

def k0_cond3 (i : grid0.Coords) : BitVec 1 :=
  let arg1 : BitVec 32 := BitVec.ofNat 32 (i 1).val
  let c0_i32_80 : BitVec 32 := 0#32
  let v141 : BitVec 1 := Scalar.cmpi .eq arg1 c0_i32_80
  let v142 : BitVec 32 := Scalar.extui v141
  let c0_i32_81 : BitVec 32 := 0#32
  let v143 : BitVec 1 := Scalar.cmpi .ne v142 c0_i32_81
  v143

def k0_cond4 (i : grid0.Coords) : BitVec 1 :=
  let arg1 : BitVec 32 := BitVec.ofNat 32 (i 1).val
  let c0_i32_82 : BitVec 32 := 0#32
  let v144 : BitVec 1 := Scalar.cmpi .ne arg1 c0_i32_82
  let v145 : BitVec 32 := Scalar.extui v144
  let c0_i32_83 : BitVec 32 := 0#32
  let v146 : BitVec 1 := Scalar.cmpi .ne v145 c0_i32_83
  v146

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S22x3 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S3x3x22 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S3x22x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S3x4096 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S4096x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S3x4096 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S1x256x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, false]

abbrev stage0_21 : Fin 1 → Memref sig .tc .vmem S1x128x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true, false]

abbrev grid1 : Pipeline.Grid := ⟨2, ![1, 16], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc1_transform_11 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S3x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S3x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S128x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S256x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S3x4096 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S4096x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 1 → Memref sig .tc .vmem S512x3 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S3x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]
-- ==== ReferenceIdeal.lean ====
abbrev S65536x512 : Shape := ⟨2, ![65536, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x3 : Shape := ⟨2, ![128, 3]⟩
abbrev S3 : Shape := ⟨1, ![3]⟩
abbrev S3x128 : Shape := ⟨2, ![3, 128]⟩
abbrev S128x256 : Shape := ⟨2, ![128, 256]⟩
abbrev S256x512 : Shape := ⟨2, ![256, 512]⟩
abbrev S512 : Shape := ⟨1, ![512]⟩
abbrev S22x3 : Shape := ⟨2, ![22, 3]⟩
abbrev S65536x256 : Shape := ⟨2, ![65536, 256]⟩
abbrev S1x256 : Shape := ⟨2, ![1, 256]⟩
abbrev S_ : Shape := ⟨0, ![]⟩
abbrev S65536x128 : Shape := ⟨2, ![65536, 128]⟩
abbrev S1x128 : Shape := ⟨2, ![1, 128]⟩
abbrev S65536x3 : Shape := ⟨2, ![65536, 3]⟩
abbrev S1x3 : Shape := ⟨2, ![1, 3]⟩
abbrev S3x3 : Shape := ⟨2, ![3, 3]⟩
abbrev S65536x1x128 : Shape := ⟨3, ![65536, 1, 128]⟩
abbrev S1x3x128 : Shape := ⟨3, ![1, 3, 128]⟩
abbrev S65536x3x128 : Shape := ⟨3, ![65536, 3, 128]⟩
abbrev S65536x3x256 : Shape := ⟨3, ![65536, 3, 256]⟩
abbrev S65536x1x256 : Shape := ⟨3, ![65536, 1, 256]⟩
abbrev S65536x3x512 : Shape := ⟨3, ![65536, 3, 512]⟩
abbrev S3x512 : Shape := ⟨2, ![3, 512]⟩
abbrev S512x3 : Shape := ⟨2, ![512, 3]⟩
abbrev S65536 : Shape := ⟨1, ![65536]⟩
abbrev S65536x1 : Shape := ⟨2, ![65536, 1]⟩
abbrev S65536x16 : Shape := ⟨2, ![65536, 16]⟩
abbrev S65536x6 : Shape := ⟨2, ![65536, 6]⟩
abbrev S65536x22 : Shape := ⟨2, ![65536, 22]⟩
abbrev S1x512 : Shape := ⟨2, ![1, 512]⟩
abbrev S512x512 : Shape := ⟨2, ![512, 512]⟩
abbrev S1x512x256 : Shape := ⟨3, ![1, 512, 256]⟩
abbrev S65536x512x256 : Shape := ⟨3, ![65536, 512, 256]⟩
abbrev S65536x512x128 : Shape := ⟨3, ![65536, 512, 128]⟩
abbrev S65536x512x3 : Shape := ⟨3, ![65536, 512, 3]⟩

abbrev nBuf : Space → Nat
  | .hbm => 351
  | .vmem => 0
  | .smem => 0
  | _ => 0

abbrev hbmTy0_0 (i : Nat) : BufTy := match i % 128 with
  | 0 => ⟨S65536x512, .f32⟩
  | 1 => ⟨S65536x512, .f32⟩
  | 2 => ⟨S65536x512, .f32⟩
  | 3 => ⟨S512x256, .f32⟩
  | 4 => ⟨S256, .f32⟩
  | 5 => ⟨S256x128, .f32⟩
  | 6 => ⟨S128, .f32⟩
  | 7 => ⟨S128x3, .f32⟩
  | 8 => ⟨S3, .f32⟩
  | 9 => ⟨S3x128, .f32⟩
  | 10 => ⟨S128, .f32⟩
  | 11 => ⟨S128x256, .f32⟩
  | 12 => ⟨S256, .f32⟩
  | 13 => ⟨S256x512, .f32⟩
  | 14 => ⟨S512, .f32⟩
  | 15 => ⟨S22x3, .f32⟩
  | 16 => ⟨S3, .f32⟩
  | 17 => ⟨S65536x256, .f32⟩
  | 18 => ⟨S1x256, .f32⟩
  | 19 => ⟨S65536x256, .f32⟩
  | 20 => ⟨S65536x256, .f32⟩
  | 21 => ⟨S65536x256, .f32⟩
  | 22 => ⟨S65536x256, .f32⟩
  | 23 => ⟨S_, .f32⟩
  | 24 => ⟨S65536x256, .f32⟩
  | 25 => ⟨S65536x256, .f32⟩
  | 26 => ⟨S_, .f32⟩
  | 27 => ⟨S65536x256, .f32⟩
  | 28 => ⟨S65536x256, .f32⟩
  | 29 => ⟨S65536x128, .f32⟩
  | 30 => ⟨S1x128, .f32⟩
  | 31 => ⟨S65536x128, .f32⟩
  | 32 => ⟨S65536x128, .f32⟩
  | 33 => ⟨S65536x128, .f32⟩
  | 34 => ⟨S65536x128, .f32⟩
  | 35 => ⟨S_, .f32⟩
  | 36 => ⟨S65536x128, .f32⟩
  | 37 => ⟨S65536x128, .f32⟩
  | 38 => ⟨S_, .f32⟩
  | 39 => ⟨S65536x128, .f32⟩
  | 40 => ⟨S65536x128, .f32⟩
  | 41 => ⟨S65536x3, .f32⟩
  | 42 => ⟨S1x3, .f32⟩
  | 43 => ⟨S65536x3, .f32⟩
  | 44 => ⟨S65536x3, .f32⟩
  | 45 => ⟨S65536x256, .f32⟩
  | 46 => ⟨S1x256, .f32⟩
  | 47 => ⟨S65536x256, .f32⟩
  | 48 => ⟨S65536x256, .f32⟩
  | 49 => ⟨S65536x256, .f32⟩
  | 50 => ⟨S65536x256, .f32⟩
  | 51 => ⟨S_, .f32⟩
  | 52 => ⟨S65536x256, .f32⟩
  | 53 => ⟨S65536x256, .f32⟩
  | 54 => ⟨S_, .f32⟩
  | 55 => ⟨S65536x256, .f32⟩
  | 56 => ⟨S65536x256, .f32⟩
  | 57 => ⟨S_, .f32⟩
  | 58 => ⟨S65536x256, .f32⟩
  | 59 => ⟨S65536x256, .f32⟩
  | 60 => ⟨S65536x256, .f32⟩
  | 61 => ⟨S65536x128, .f32⟩
  | 62 => ⟨S1x128, .f32⟩
  | 63 => ⟨S65536x128, .f32⟩
  | 64 => ⟨S65536x128, .f32⟩
  | 65 => ⟨S65536x128, .f32⟩
  | 66 => ⟨S65536x128, .f32⟩
  | 67 => ⟨S_, .f32⟩
  | 68 => ⟨S65536x128, .f32⟩
  | 69 => ⟨S65536x128, .f32⟩
  | 70 => ⟨S_, .f32⟩
  | 71 => ⟨S65536x128, .f32⟩
  | 72 => ⟨S65536x128, .f32⟩
  | 73 => ⟨S_, .f32⟩
  | 74 => ⟨S65536x128, .f32⟩
  | 75 => ⟨S65536x128, .f32⟩
  | 76 => ⟨S65536x128, .f32⟩
  | 77 => ⟨S65536x3, .f32⟩
  | 78 => ⟨S1x3, .f32⟩
  | 79 => ⟨S65536x3, .f32⟩
  | 80 => ⟨S65536x3, .f32⟩
  | 81 => ⟨S3x3, .i32⟩
  | 82 => ⟨S3x3, .i32⟩
  | 83 => ⟨S_, .i32⟩
  | 84 => ⟨S3x3, .i32⟩
  | 85 => ⟨S3x3, .i32⟩
  | 86 => ⟨S3x3, .i1⟩
  | 87 => ⟨S3x3, .f32⟩
  | 88 => ⟨S3x3, .f32⟩
  | 89 => ⟨S3x128, .f32⟩
  | 90 => ⟨S65536x1x128, .f32⟩
  | 91 => ⟨S1x3x128, .f32⟩
  | 92 => ⟨S65536x3x128, .f32⟩
  | 93 => ⟨S65536x3x128, .f32⟩
  | 94 => ⟨S65536x3x128, .f32⟩
  | 95 => ⟨S65536x3x256, .f32⟩
  | 96 => ⟨S65536x1x256, .f32⟩
  | 97 => ⟨S65536x3x256, .f32⟩
  | 98 => ⟨S65536x3x256, .f32⟩
  | 99 => ⟨S65536x3x512, .f32⟩
  | 100 => ⟨S65536x3x512, .f32⟩
  | 101 => ⟨S65536x3x512, .f32⟩
  | 102 => ⟨S_, .f32⟩
  | 103 => ⟨S3x512, .f32⟩
  | 104 => ⟨S_, .f32⟩
  | 105 => ⟨S3x512, .f32⟩
  | 106 => ⟨S3x512, .f32⟩
  | 107 => ⟨S512x3, .f32⟩
  | 108 => ⟨S65536x3, .f32⟩
  | 109 => ⟨S_, .f32⟩
  | 110 => ⟨S65536, .f32⟩
  | 111 => ⟨S_, .f32⟩
  | 112 => ⟨S65536, .f32⟩
  | 113 => ⟨S_, .f32⟩
  | 114 => ⟨S65536, .f32⟩
  | 115 => ⟨S65536x1, .f32⟩
  | 116 => ⟨S65536, .f32⟩
  | 117 => ⟨S65536x1, .f32⟩
  | 118 => ⟨S65536, .f32⟩
  | 119 => ⟨S65536x1, .f32⟩
  | 120 => ⟨S65536, .f32⟩
  | 121 => ⟨S65536x1, .f32⟩
  | 122 => ⟨S65536, .f32⟩
  | 123 => ⟨S65536x1, .f32⟩
  | 124 => ⟨S65536, .f32⟩
  | 125 => ⟨S65536, .f32⟩
  | 126 => ⟨S65536x1, .f32⟩
  | 127 => ⟨S65536, .f32⟩
  | _ => ⟨S65536x512, .f32⟩

abbrev hbmTy0_1 (i : Nat) : BufTy := match i % 128 with
  | 0 => ⟨S65536x1, .f32⟩
  | 1 => ⟨S65536, .f32⟩
  | 2 => ⟨S65536, .f32⟩
  | 3 => ⟨S65536x1, .f32⟩
  | 4 => ⟨S65536, .f32⟩
  | 5 => ⟨S65536x1, .f32⟩
  | 6 => ⟨S65536, .f32⟩
  | 7 => ⟨S65536, .f32⟩
  | 8 => ⟨S65536x1, .f32⟩
  | 9 => ⟨S65536, .f32⟩
  | 10 => ⟨S65536x1, .f32⟩
  | 11 => ⟨S65536, .f32⟩
  | 12 => ⟨S65536, .f32⟩
  | 13 => ⟨S65536x1, .f32⟩
  | 14 => ⟨S65536, .f32⟩
  | 15 => ⟨S65536x1, .f32⟩
  | 16 => ⟨S65536, .f32⟩
  | 17 => ⟨S65536, .f32⟩
  | 18 => ⟨S65536x1, .f32⟩
  | 19 => ⟨S65536, .f32⟩
  | 20 => ⟨S65536x1, .f32⟩
  | 21 => ⟨S65536, .f32⟩
  | 22 => ⟨S65536, .f32⟩
  | 23 => ⟨S65536x1, .f32⟩
  | 24 => ⟨S65536, .f32⟩
  | 25 => ⟨S65536x1, .f32⟩
  | 26 => ⟨S65536, .f32⟩
  | 27 => ⟨S65536, .f32⟩
  | 28 => ⟨S65536x1, .f32⟩
  | 29 => ⟨S65536, .f32⟩
  | 30 => ⟨S65536, .f32⟩
  | 31 => ⟨S65536x1, .f32⟩
  | 32 => ⟨S65536, .f32⟩
  | 33 => ⟨S65536x1, .f32⟩
  | 34 => ⟨S65536, .f32⟩
  | 35 => ⟨S65536, .f32⟩
  | 36 => ⟨S65536x1, .f32⟩
  | 37 => ⟨S65536, .f32⟩
  | 38 => ⟨S65536, .f32⟩
  | 39 => ⟨S65536x1, .f32⟩
  | 40 => ⟨S65536, .f32⟩
  | 41 => ⟨S65536x1, .f32⟩
  | 42 => ⟨S65536, .f32⟩
  | 43 => ⟨S65536, .f32⟩
  | 44 => ⟨S65536x1, .f32⟩
  | 45 => ⟨S65536, .f32⟩
  | 46 => ⟨S65536, .f32⟩
  | 47 => ⟨S65536x1, .f32⟩
  | 48 => ⟨S65536, .f32⟩
  | 49 => ⟨S65536x1, .f32⟩
  | 50 => ⟨S65536, .f32⟩
  | 51 => ⟨S65536, .f32⟩
  | 52 => ⟨S65536x1, .f32⟩
  | 53 => ⟨S65536, .f32⟩
  | 54 => ⟨S65536, .f32⟩
  | 55 => ⟨S65536x1, .f32⟩
  | 56 => ⟨S65536, .f32⟩
  | 57 => ⟨S65536x1, .f32⟩
  | 58 => ⟨S65536, .f32⟩
  | 59 => ⟨S65536, .f32⟩
  | 60 => ⟨S65536x1, .f32⟩
  | 61 => ⟨S65536, .f32⟩
  | 62 => ⟨S65536, .f32⟩
  | 63 => ⟨S65536x1, .f32⟩
  | 64 => ⟨S65536, .f32⟩
  | 65 => ⟨S65536x1, .f32⟩
  | 66 => ⟨S65536, .f32⟩
  | 67 => ⟨S65536, .f32⟩
  | 68 => ⟨S65536x1, .f32⟩
  | 69 => ⟨S65536, .f32⟩
  | 70 => ⟨S65536, .f32⟩
  | 71 => ⟨S65536x1, .f32⟩
  | 72 => ⟨S65536, .f32⟩
  | 73 => ⟨S65536x1, .f32⟩
  | 74 => ⟨S65536, .f32⟩
  | 75 => ⟨S65536, .f32⟩
  | 76 => ⟨S65536x1, .f32⟩
  | 77 => ⟨S65536, .f32⟩
  | 78 => ⟨S65536, .f32⟩
  | 79 => ⟨S65536x1, .f32⟩
  | 80 => ⟨S65536, .f32⟩
  | 81 => ⟨S65536x1, .f32⟩
  | 82 => ⟨S65536, .f32⟩
  | 83 => ⟨S65536, .f32⟩
  | 84 => ⟨S65536x1, .f32⟩
  | 85 => ⟨S65536, .f32⟩
  | 86 => ⟨S65536, .f32⟩
  | 87 => ⟨S65536x1, .f32⟩
  | 88 => ⟨S65536, .f32⟩
  | 89 => ⟨S65536x1, .f32⟩
  | 90 => ⟨S65536, .f32⟩
  | 91 => ⟨S65536, .f32⟩
  | 92 => ⟨S65536x1, .f32⟩
  | 93 => ⟨S65536, .f32⟩
  | 94 => ⟨S65536, .f32⟩
  | 95 => ⟨S65536x1, .f32⟩
  | 96 => ⟨S65536, .f32⟩
  | 97 => ⟨S65536x1, .f32⟩
  | 98 => ⟨S65536, .f32⟩
  | 99 => ⟨S65536, .f32⟩
  | 100 => ⟨S65536x1, .f32⟩
  | 101 => ⟨S65536, .f32⟩
  | 102 => ⟨S65536, .f32⟩
  | 103 => ⟨S65536x1, .f32⟩
  | 104 => ⟨S65536x1, .f32⟩
  | 105 => ⟨S65536x1, .f32⟩
  | 106 => ⟨S65536x1, .f32⟩
  | 107 => ⟨S65536x1, .f32⟩
  | 108 => ⟨S65536x1, .f32⟩
  | 109 => ⟨S65536x1, .f32⟩
  | 110 => ⟨S65536x1, .f32⟩
  | 111 => ⟨S65536x1, .f32⟩
  | 112 => ⟨S65536x1, .f32⟩
  | 113 => ⟨S65536x1, .f32⟩
  | 114 => ⟨S65536x1, .f32⟩
  | 115 => ⟨S65536x1, .f32⟩
  | 116 => ⟨S65536x1, .f32⟩
  | 117 => ⟨S65536x1, .f32⟩
  | 118 => ⟨S65536x1, .f32⟩
  | 119 => ⟨S65536x1, .f32⟩
  | 120 => ⟨S65536x1, .f32⟩
  | 121 => ⟨S65536x1, .f32⟩
  | 122 => ⟨S65536x1, .f32⟩
  | 123 => ⟨S65536x1, .f32⟩
  | 124 => ⟨S65536x1, .f32⟩
  | 125 => ⟨S65536x16, .f32⟩
  | 126 => ⟨S65536x6, .f32⟩
  | 127 => ⟨S65536x22, .f32⟩
  | _ => ⟨S65536x512, .f32⟩

abbrev hbmTy0_2 (i : Nat) : BufTy := match i % 128 with
  | 0 => ⟨S65536x3, .f32⟩
  | 1 => ⟨S1x3, .f32⟩
  | 2 => ⟨S65536x3, .f32⟩
  | 3 => ⟨S65536x3, .f32⟩
  | 4 => ⟨S65536x128, .f32⟩
  | 5 => ⟨S1x128, .f32⟩
  | 6 => ⟨S65536x128, .f32⟩
  | 7 => ⟨S65536x128, .f32⟩
  | 8 => ⟨S65536x128, .f32⟩
  | 9 => ⟨S65536x128, .f32⟩
  | 10 => ⟨S_, .f32⟩
  | 11 => ⟨S65536x128, .f32⟩
  | 12 => ⟨S65536x128, .f32⟩
  | 13 => ⟨S_, .f32⟩
  | 14 => ⟨S65536x128, .f32⟩
  | 15 => ⟨S65536x128, .f32⟩
  | 16 => ⟨S65536x256, .f32⟩
  | 17 => ⟨S1x256, .f32⟩
  | 18 => ⟨S65536x256, .f32⟩
  | 19 => ⟨S65536x256, .f32⟩
  | 20 => ⟨S65536x256, .f32⟩
  | 21 => ⟨S65536x256, .f32⟩
  | 22 => ⟨S_, .f32⟩
  | 23 => ⟨S65536x256, .f32⟩
  | 24 => ⟨S65536x256, .f32⟩
  | 25 => ⟨S_, .f32⟩
  | 26 => ⟨S65536x256, .f32⟩
  | 27 => ⟨S65536x256, .f32⟩
  | 28 => ⟨S65536x512, .f32⟩
  | 29 => ⟨S1x512, .f32⟩
  | 30 => ⟨S65536x512, .f32⟩
  | 31 => ⟨S65536x512, .f32⟩
  | 32 => ⟨S65536x128, .f32⟩
  | 33 => ⟨S1x128, .f32⟩
  | 34 => ⟨S65536x128, .f32⟩
  | 35 => ⟨S65536x128, .f32⟩
  | 36 => ⟨S65536x128, .f32⟩
  | 37 => ⟨S65536x128, .f32⟩
  | 38 => ⟨S_, .f32⟩
  | 39 => ⟨S65536x128, .f32⟩
  | 40 => ⟨S65536x128, .f32⟩
  | 41 => ⟨S_, .f32⟩
  | 42 => ⟨S65536x128, .f32⟩
  | 43 => ⟨S65536x128, .f32⟩
  | 44 => ⟨S_, .f32⟩
  | 45 => ⟨S65536x128, .f32⟩
  | 46 => ⟨S65536x128, .f32⟩
  | 47 => ⟨S65536x128, .f32⟩
  | 48 => ⟨S65536x256, .f32⟩
  | 49 => ⟨S1x256, .f32⟩
  | 50 => ⟨S65536x256, .f32⟩
  | 51 => ⟨S65536x256, .f32⟩
  | 52 => ⟨S65536x256, .f32⟩
  | 53 => ⟨S65536x256, .f32⟩
  | 54 => ⟨S_, .f32⟩
  | 55 => ⟨S65536x256, .f32⟩
  | 56 => ⟨S65536x256, .f32⟩
  | 57 => ⟨S_, .f32⟩
  | 58 => ⟨S65536x256, .f32⟩
  | 59 => ⟨S65536x256, .f32⟩
  | 60 => ⟨S_, .f32⟩
  | 61 => ⟨S65536x256, .f32⟩
  | 62 => ⟨S65536x256, .f32⟩
  | 63 => ⟨S65536x256, .f32⟩
  | 64 => ⟨S65536x512, .f32⟩
  | 65 => ⟨S1x512, .f32⟩
  | 66 => ⟨S65536x512, .f32⟩
  | 67 => ⟨S65536x512, .f32⟩
  | 68 => ⟨S512x512, .i32⟩
  | 69 => ⟨S512x512, .i32⟩
  | 70 => ⟨S_, .i32⟩
  | 71 => ⟨S512x512, .i32⟩
  | 72 => ⟨S512x512, .i32⟩
  | 73 => ⟨S512x512, .i1⟩
  | 74 => ⟨S512x512, .f32⟩
  | 75 => ⟨S512x512, .f32⟩
  | 76 => ⟨S512x256, .f32⟩
  | 77 => ⟨S65536x1x256, .f32⟩
  | 78 => ⟨S1x512x256, .f32⟩
  | 79 => ⟨S65536x512x256, .f32⟩
  | 80 => ⟨S65536x512x256, .f32⟩
  | 81 => ⟨S65536x512x256, .f32⟩
  | 82 => ⟨S65536x512x128, .f32⟩
  | 83 => ⟨S65536x1x128, .f32⟩
  | 84 => ⟨S65536x512x128, .f32⟩
  | 85 => ⟨S65536x512x128, .f32⟩
  | 86 => ⟨S65536x512x3, .f32⟩
  | 87 => ⟨S65536x512x3, .f32⟩
  | 88 => ⟨S_, .f32⟩
  | 89 => ⟨S512x3, .f32⟩
  | 90 => ⟨S_, .f32⟩
  | 91 => ⟨S512x3, .f32⟩
  | 92 => ⟨S512x3, .f32⟩
  | 93 => ⟨S3x512, .f32⟩
  | 94 => ⟨S65536x512, .f32⟩
  | _ => ⟨S65536x512, .f32⟩

abbrev hbmTy (i : Nat) : BufTy := match i / 128 with
  | 0 => hbmTy0_0 i
  | 1 => hbmTy0_1 i
  | 2 => hbmTy0_2 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_9 : Ref sig .tc := ⟨.hbm, 102, rfl⟩
abbrev main_v74 : Ref sig .tc := ⟨.hbm, 103, rfl⟩
abbrev main_cst_10 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_11 : Ref sig .tc := ⟨.hbm, 109, rfl⟩
abbrev main_v79 : Ref sig .tc := ⟨.hbm, 110, rfl⟩
abbrev main_cst_12 : Ref sig .tc := ⟨.hbm, 111, rfl⟩
abbrev main_v80 : Ref sig .tc := ⟨.hbm, 112, rfl⟩
abbrev main_cst_13 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_cst_14 : Ref sig .tc := ⟨.hbm, 266, rfl⟩
abbrev main_v233 : Ref sig .tc := ⟨.hbm, 267, rfl⟩
abbrev main_v234 : Ref sig .tc := ⟨.hbm, 268, rfl⟩
abbrev main_cst_15 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_cst_16 : Ref sig .tc := ⟨.hbm, 278, rfl⟩
abbrev main_v243 : Ref sig .tc := ⟨.hbm, 279, rfl⟩
abbrev main_v244 : Ref sig .tc := ⟨.hbm, 280, rfl⟩
abbrev main_cst_17 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_cst_18 : Ref sig .tc := ⟨.hbm, 294, rfl⟩
abbrev main_v257 : Ref sig .tc := ⟨.hbm, 295, rfl⟩
abbrev main_v258 : Ref sig .tc := ⟨.hbm, 296, rfl⟩
abbrev main_cst_19 : Ref sig .tc := ⟨.hbm, 297, rfl⟩
abbrev main_v259 : Ref sig .tc := ⟨.hbm, 298, rfl⟩
abbrev main_v260 : Ref sig .tc := ⟨.hbm, 299, rfl⟩
abbrev main_cst_20 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_cst_21 : Ref sig .tc := ⟨.hbm, 310, rfl⟩
abbrev main_v270 : Ref sig .tc := ⟨.hbm, 311, rfl⟩
abbrev main_v271 : Ref sig .tc := ⟨.hbm, 312, rfl⟩
abbrev main_cst_22 : Ref sig .tc := ⟨.hbm, 313, rfl⟩
abbrev main_v272 : Ref sig .tc := ⟨.hbm, 314, rfl⟩
abbrev main_v273 : Ref sig .tc := ⟨.hbm, 315, rfl⟩
abbrev main_cst_23 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev main_c_24 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩
abbrev main_cst_25 : Ref sig .tc := ⟨.hbm, 344, rfl⟩
abbrev main_v300 : Ref sig .tc := ⟨.hbm, 345, rfl⟩
abbrev main_cst_26 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩

abbrev nD : Nat := 1
abbrev τ : Topo := Topo.v7x

variable {F : FTy → Type} [FloatOps F]
-- ==== Proof.Body0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.WholeRead

/-! The body of the first `pallas_call` (the forward stage): what it computes at a grid point from its blocks. -/

@[expose] public section

set_option maxRecDepth 16384

noncomputable section

namespace Sindy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes from its blocks -/

/-- The blocks the body reads at a point. -/
structure In0 (F : FTy → Type) where
  /-- the rows of `x` -/
  x0 : Vec F S4096x512 .f32
  /-- the encoder's first weight -/
  x1 : Vec F S512x256 .f32
  /-- its bias -/
  x2 : Vec F S256 .f32
  /-- the encoder's second weight -/
  x3 : Vec F S256x128 .f32
  /-- its bias -/
  x4 : Vec F S128 .f32
  /-- the encoder's last weight -/
  x5 : Vec F S128x3 .f32
  /-- its bias, a column -/
  x6 : Vec F S3x1 .f32
  /-- the decoder's first weight -/
  x7 : Vec F S3x128 .f32
  /-- its bias -/
  x8 : Vec F S128 .f32
  /-- the decoder's second weight -/
  x9 : Vec F S128x256 .f32
  /-- its bias -/
  x10 : Vec F S256 .f32
  /-- the decoder's last weight -/
  x11 : Vec F S256x512 .f32
  /-- its bias -/
  x12 : Vec F S512 .f32
  /-- the coefficients of the library's terms -/
  x13 : Vec F S22x3 .f32
  /-- their bias, a column -/
  x14 : Vec F S3x1 .f32
  /-- the selector matrices -/
  x15 : Vec F S3x3x22 .f32
  /-- the selector columns -/
  x16 : Vec F S3x22x1 .f32

/-- The constant one quarter. -/
def quarter : F .f32 := Scalar.ofBits .f32 0x3E800000#32

/-- Selector matrix `0`, `1`, `2`, each as a one-slab stack. -/
def selM0 (S : Vec F S3x3x22 .f32) : Vec F S1x3x22 .f32 := fun j => S ((Rect.unit (s := S3x3x22) ![0, 0, 0] S1x3x22.size inb_S3x3x22_S1x3x22_0_0_0).toLoadRect.idx j)
@[inherit_doc selM0] def selM1 (S : Vec F S3x3x22 .f32) : Vec F S1x3x22 .f32 := fun j => S ((Rect.unit (s := S3x3x22) ![1, 0, 0] S1x3x22.size inb_S3x3x22_S1x3x22_1_0_0).toLoadRect.idx j)
@[inherit_doc selM0] def selM2 (S : Vec F S3x3x22 .f32) : Vec F S1x3x22 .f32 := fun j => S ((Rect.unit (s := S3x3x22) ![2, 0, 0] S1x3x22.size inb_S3x3x22_S1x3x22_2_0_0).toLoadRect.idx j)

/-- Selector column `0`, `1`, `2`, each as a one-slab stack. -/
def selC0 (s : Vec F S3x22x1 .f32) : Vec F S1x22x1 .f32 := fun j => s ((Rect.unit (s := S3x22x1) ![0, 0, 0] S1x22x1.size inb_S3x22x1_S1x22x1_0_0_0).toLoadRect.idx j)
@[inherit_doc selC0] def selC1 (s : Vec F S3x22x1 .f32) : Vec F S1x22x1 .f32 := fun j => s ((Rect.unit (s := S3x22x1) ![1, 0, 0] S1x22x1.size inb_S3x22x1_S1x22x1_1_0_0).toLoadRect.idx j)
@[inherit_doc selC0] def selC2 (s : Vec F S3x22x1 .f32) : Vec F S1x22x1 .f32 := fun j => s ((Rect.unit (s := S3x22x1) ![2, 0, 0] S1x22x1.size inb_S3x22x1_S1x22x1_2_0_0).toLoadRect.idx j)

namespace In0

variable (X : In0 F)

/-- The sigmoid of the encoder's second layer. -/
def enc2 : FVec F S4096x128 .bf16 := k0_pay5 X.x0 X.x1 X.x2 X.x3 X.x4
/-- The codes of the point's rows, one column per row. -/
def z : FVec F S3x4096 .f32 := k0_pay7 X.enc2 X.x5 X.x6
/-- The derivative factor of the encoder's first layer. -/
def encG : FVec F S4096x256 .bf16 := k0_pay3 X.x0 X.x1 X.x2
/-- The squared hyperbolic tangent of the encoder's second layer. -/
def encT : FVec F S4096x128 .f32 := k0_pay6 X.x0 X.x1 X.x2 X.x3 X.x4
/-- The predicted derivatives of the codes. -/
def dzb : FVec F S3x4096 .f32 :=
  k0_pay13 X.z (k0_pay11 X.enc2 X.x5 X.x6 (selM0 X.x15) (selC0 X.x16)) (k0_pay12 X.enc2 X.x5 X.x6 (selM1 X.x15))
    (selC1 X.x16) (selM2 X.x15) (selC2 X.x16) X.x13 X.x14
/-- The sigmoid of the decoder's first layer. -/
def dec1 : FVec F S4096x128 .bf16 := k0_pay15 X.z X.x7 X.x8
/-- The squared hyperbolic tangent of the decoder's first layer. -/
def decT : FVec F S4096x128 .f32 := k0_pay16 X.z X.x7 X.x8
/-- The reconstructed rows. -/
def xb : FVec F S4096x512 .f32 := k0_pay18 X.dec1 X.x9 X.x10 X.x11 X.x12
/-- The encoder's accumulator after the first point, -/
def geFirst : FVec F S1x256x128 .f32 := k0_pay9 X.encG X.encT quarter
/-- and after a later one. -/
def geNext (p : Vec F S1x256x128 .f32) : FVec F S1x256x128 .f32 := k0_pay10 X.encG X.encT quarter p
/-- The decoder's accumulator after the first point, -/
def gdFirst : FVec F S1x128x256 .f32 := k0_pay20 X.dec1 X.decT quarter X.x9 X.x10
/-- and after a later one. -/
def gdNext (p : Vec F S1x128x256 .f32) : FVec F S1x128x256 .f32 := k0_pay1 (k0_pay19 X.dec1 X.decT quarter X.x9 X.x10) p

end In0

/-! ## The body on arbitrary whole buffers -/

section Body

variable (c : Dev nD) (i : grid0.Coords) (X : In0 F)
  {arg2 : Memref sig .tc .vmem S4096x512 .f32} (harg2 : arg2.IsWhole) {arg3 : Memref sig .tc .vmem S512x256 .f32} (harg3 : arg3.IsWhole)
  {arg4 : Memref sig .tc .vmem S256 .f32} (harg4 : arg4.IsWhole) {arg5 : Memref sig .tc .vmem S256x128 .f32} (harg5 : arg5.IsWhole)
  {arg6 : Memref sig .tc .vmem S128 .f32} (harg6 : arg6.IsWhole) {arg7 : Memref sig .tc .vmem S128x3 .f32} (harg7 : arg7.IsWhole)
  {arg8 : Memref sig .tc .vmem S3x1 .f32} (harg8 : arg8.IsWhole) {arg9 : Memref sig .tc .vmem S3x128 .f32} (harg9 : arg9.IsWhole)
  {arg10 : Memref sig .tc .vmem S128 .f32} (harg10 : arg10.IsWhole) {arg11 : Memref sig .tc .vmem S128x256 .f32} (harg11 : arg11.IsWhole)
  {arg12 : Memref sig .tc .vmem S256 .f32} (harg12 : arg12.IsWhole) {arg13 : Memref sig .tc .vmem S256x512 .f32} (harg13 : arg13.IsWhole)
  {arg14 : Memref sig .tc .vmem S512 .f32} (harg14 : arg14.IsWhole) {arg15 : Memref sig .tc .vmem S22x3 .f32} (harg15 : arg15.IsWhole)
  {arg16 : Memref sig .tc .vmem S3x1 .f32} (harg16 : arg16.IsWhole) {arg17 : Memref sig .tc .vmem S3x3x22 .f32} (harg17 : arg17.IsWhole)
  {arg18 : Memref sig .tc .vmem S3x22x1 .f32} (harg18 : arg18.IsWhole) {arg19 : Memref sig .tc .vmem S3x4096 .f32} (harg19 : arg19.IsWhole)
  {arg20 : Memref sig .tc .vmem S4096x512 .f32} (harg20 : arg20.IsWhole) {arg21 : Memref sig .tc .vmem S3x4096 .f32} (harg21 : arg21.IsWhole)
  {arg22 : Memref sig .tc .vmem S1x256x128 .f32} (harg22 : arg22.IsWhole) {arg23 : Memref sig .tc .vmem S1x128x256 .f32} (harg23 : arg23.IsWhole)

/-- The seventeen input buffers holding their blocks. -/
abbrev ins0 (arg2 : Memref sig .tc .vmem S4096x512 .f32) (arg3 : Memref sig .tc .vmem S512x256 .f32) (arg4 : Memref sig .tc .vmem S256 .f32)
    (arg5 : Memref sig .tc .vmem S256x128 .f32) (arg6 : Memref sig .tc .vmem S128 .f32) (arg7 : Memref sig .tc .vmem S128x3 .f32)
    (arg8 : Memref sig .tc .vmem S3x1 .f32) (arg9 : Memref sig .tc .vmem S3x128 .f32) (arg10 : Memref sig .tc .vmem S128 .f32)
    (arg11 : Memref sig .tc .vmem S128x256 .f32) (arg12 : Memref sig .tc .vmem S256 .f32) (arg13 : Memref sig .tc .vmem S256x512 .f32)
    (arg14 : Memref sig .tc .vmem S512 .f32) (arg15 : Memref sig .tc .vmem S22x3 .f32) (arg16 : Memref sig .tc .vmem S3x1 .f32)
    (arg17 : Memref sig .tc .vmem S3x3x22 .f32) (arg18 : Memref sig .tc .vmem S3x22x1 .f32)
    (T : sProp 𝕄) : sProp 𝕄 :=
  iprop(owns (c : Thread nD τ) arg2 fullShare X.x0 ∗ owns (c : Thread nD τ) arg3 fullShare X.x1 ∗ owns (c : Thread nD τ) arg4 fullShare X.x2 ∗
    owns (c : Thread nD τ) arg5 fullShare X.x3 ∗ owns (c : Thread nD τ) arg6 fullShare X.x4 ∗ owns (c : Thread nD τ) arg7 fullShare X.x5 ∗
    owns (c : Thread nD τ) arg8 fullShare X.x6 ∗ owns (c : Thread nD τ) arg9 fullShare X.x7 ∗ owns (c : Thread nD τ) arg10 fullShare X.x8 ∗
    owns (c : Thread nD τ) arg11 fullShare X.x9 ∗ owns (c : Thread nD τ) arg12 fullShare X.x10 ∗ owns (c : Thread nD τ) arg13 fullShare X.x11 ∗
    owns (c : Thread nD τ) arg14 fullShare X.x12 ∗ owns (c : Thread nD τ) arg15 fullShare X.x13 ∗ owns (c : Thread nD τ) arg16 fullShare X.x14 ∗
    owns (c : Thread nD τ) arg17 fullShare X.x15 ∗ owns (c : Thread nD τ) arg18 fullShare X.x16 ∗ T)

/-- What a load of part of a whole buffer gives. -/
theorem readAt_sel {s : Shape} {e : EltTy} {m : Memref sig .tc .vmem s e} (h : m.IsWhole) (x : s.Idx → Elt F e) (R : LoadRect s) :
    m.view.readAt (Elt F) R (h.unread x) = fun j => x (R.idx j) :=
  funext fun j => h.readAt_unread x R j

set_option maxHeartbeats 4000000 in
/-- At the first grid point the body computes the three outputs' blocks and starts the two accumulators. -/
theorem body0_first (h1 : k0_cond1 i = 1#1) (h2 : ¬ k0_cond2 i = 1#1) (h3 : k0_cond3 i = 1#1) (h4 : ¬ k0_cond4 i = 1#1) (E : Set ℕ) (K : PUnit → sProp 𝕄) :
    ins0 c X arg2 arg3 arg4 arg5 arg6 arg7 arg8 arg9 arg10 arg11 arg12 arg13 arg14 arg15 arg16 arg17 arg18
      iprop((∃ d, owns (c : Thread nD τ) arg19 fullShare d) ∗ (∃ d, owns (c : Thread nD τ) arg20 fullShare d) ∗ (∃ d, owns (c : Thread nD τ) arg21 fullShare d)
        ∗ (∃ d, owns (c : Thread nD τ) arg22 fullShare d) ∗ (∃ d, owns (c : Thread nD τ) arg23 fullShare d)
        ∗ (ins0 c X arg2 arg3 arg4 arg5 arg6 arg7 arg8 arg9 arg10 arg11 arg12 arg13 arg14 arg15 arg16 arg17 arg18
            iprop(owns (c : Thread nD τ) arg19 fullShare X.z ∗ owns (c : Thread nD τ) arg20 fullShare X.xb ∗ owns (c : Thread nD τ) arg21 fullShare X.dzb
              ∗ owns (c : Thread nD τ) arg22 fullShare X.geFirst ∗ owns (c : Thread nD τ) arg23 fullShare X.gdFirst) -∗ K ⟨⟩))
      ⊢ wp frame (wpE (defs₀ (F := F)) Variants.none c none) E
          (cc0_sindy_forward i arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18 arg19 harg19
            arg20 harg20 arg21 harg21 arg22 harg22 arg23 harg23) K := by
  simp only [cc0_sindy_forward_eq_skeleton]; unfold cc0_sindy_forward_skel
  simp only [k0_part1_eq_skeleton, k0_part2_eq_skeleton, k0_part3_eq_skeleton, k0_part4_eq_skeleton]
  obtain ⟨x0, x1, x2, x3, x4, x5, x6, x7, x8, x9, x10, x11, x12, x13, x14, x15, x16⟩ := X
  unfold ins0 owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩, ⟨%d17, %f17, -, H17⟩,
    ⟨%d18, %f18, -, H18⟩, ⟨%d19, %f19, -, H19⟩,
    ⟨%d20, %f20, -, H20⟩, ⟨%d21, %f21, -, H21⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg12.eq_unread hf10; obtain rfl := harg13.eq_unread hf11
  obtain rfl := harg14.eq_unread hf12; obtain rfl := harg15.eq_unread hf13; obtain rfl := harg16.eq_unread hf14
  obtain rfl := harg17.eq_unread hf15; obtain rfl := harg18.eq_unread hf16
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  isplitl [H17]
  · iexists _; isplitr; swap; · iexact H17
    ipureintro
    refine (View.read_writes_full _ _ _ _ _).trans ?_
    unfold body0_first.sl.r_1
    repeat rw [View.readAt_full]
    simp only [Memref.IsWhole.read_unread]
    rfl
  isplitl [H18]
  · iexists _; isplitr; swap; · iexact H18
    ipureintro
    refine (View.read_writes_full _ _ _ _ _).trans ?_
    unfold body0_first.sl.r_6 body0_first.sl.r_3 body0_first.sl.r_1
    repeat rw [View.readAt_full]
    simp only [Memref.IsWhole.read_unread]
    rfl
  isplitl [H19]
  · iexists _; isplitr; swap; · iexact H19
    ipureintro
    refine (View.read_writes_full _ _ _ _ _).trans ?_
    unfold body0_first.sl.r_5 body0_first.sl.r_4 body0_first.sl.r_3 body0_first.sl.r_1
    repeat rw [View.readAt_full]
    simp only [Memref.IsWhole.read_unread]
    repeat rw [readAt_sel]
    rfl
  isplitl [H20]
  · iexists _; isplitr; swap; · iexact H20
    ipureintro
    refine (View.read_writes_full _ _ _ _ _).trans ?_
    unfold body0_first.sl.r_2 body0_first.sl.r body0_first.sl.cst_16
    repeat rw [View.readAt_full]
    simp only [Memref.IsWhole.read_unread]
    rfl
  iexists _; isplitr; swap; · iexact H21
  ipureintro
  refine (View.read_writes_full _ _ _ _ _).trans ?_
  unfold body0_first.sl.r_7 body0_first.sl.r_6 body0_first.sl.r_3 body0_first.sl.r_1 body0_first.sl.cst_16
  repeat rw [View.readAt_full]
  simp only [Memref.IsWhole.read_unread]
  rfl

set_option maxHeartbeats 4000000 in
/-- At every later grid point it adds to the accumulators what it would have started them with. -/
theorem body0_next (h1 : ¬ k0_cond1 i = 1#1) (h2 : k0_cond2 i = 1#1) (h3 : ¬ k0_cond3 i = 1#1) (h4 : k0_cond4 i = 1#1) (x20 : Vec F S1x256x128 .f32) (x21 : Vec F S1x128x256 .f32) (E : Set ℕ) (K : PUnit → sProp 𝕄) :
    ins0 c X arg2 arg3 arg4 arg5 arg6 arg7 arg8 arg9 arg10 arg11 arg12 arg13 arg14 arg15 arg16 arg17 arg18
      iprop((∃ d, owns (c : Thread nD τ) arg19 fullShare d) ∗ (∃ d, owns (c : Thread nD τ) arg20 fullShare d) ∗ (∃ d, owns (c : Thread nD τ) arg21 fullShare d)
        ∗ owns (c : Thread nD τ) arg22 fullShare x20 ∗ owns (c : Thread nD τ) arg23 fullShare x21
        ∗ (ins0 c X arg2 arg3 arg4 arg5 arg6 arg7 arg8 arg9 arg10 arg11 arg12 arg13 arg14 arg15 arg16 arg17 arg18
            iprop(owns (c : Thread nD τ) arg19 fullShare X.z ∗ owns (c : Thread nD τ) arg20 fullShare X.xb ∗ owns (c : Thread nD τ) arg21 fullShare X.dzb
              ∗ owns (c : Thread nD τ) arg22 fullShare (X.geNext x20) ∗ owns (c : Thread nD τ) arg23 fullShare (X.gdNext x21)) -∗ K ⟨⟩))
      ⊢ wp frame (wpE (defs₀ (F := F)) Variants.none c none) E
          (cc0_sindy_forward i arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18 arg19 harg19
            arg20 harg20 arg21 harg21 arg22 harg22 arg23 harg23) K := by
  simp only [cc0_sindy_forward_eq_skeleton]; unfold cc0_sindy_forward_skel
  simp only [k0_part1_eq_skeleton, k0_part2_eq_skeleton, k0_part3_eq_skeleton, k0_part4_eq_skeleton]
  obtain ⟨x0, x1, x2, x3, x4, x5, x6, x7, x8, x9, x10, x11, x12, x13, x14, x15, x16⟩ := X
  unfold ins0 owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩, ⟨%d17, %f17, -, H17⟩,
    ⟨%d18, %f18, -, H18⟩, ⟨%d19, %f19, -, H19⟩,
    ⟨%f20, %hf20, H20⟩, ⟨%f21, %hf21, H21⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg12.eq_unread hf10; obtain rfl := harg13.eq_unread hf11
  obtain rfl := harg14.eq_unread hf12; obtain rfl := harg15.eq_unread hf13; obtain rfl := harg16.eq_unread hf14
  obtain rfl := harg17.eq_unread hf15; obtain rfl := harg18.eq_unread hf16
  obtain rfl := harg22.eq_unread hf20; obtain rfl := harg23.eq_unread hf21
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  isplitl [H17]
  · iexists _; isplitr; swap; · iexact H17
    ipureintro
    refine (View.read_writes_full _ _ _ _ _).trans ?_
    unfold body0_next.sl.r_1
    repeat rw [View.readAt_full]
    simp only [Memref.IsWhole.read_unread]
    rfl
  isplitl [H18]
  · iexists _; isplitr; swap; · iexact H18
    ipureintro
    refine (View.read_writes_full _ _ _ _ _).trans ?_
    unfold body0_next.sl.r_6 body0_next.sl.r_3 body0_next.sl.r_1
    repeat rw [View.readAt_full]
    simp only [Memref.IsWhole.read_unread]
    rfl
  isplitl [H19]
  · iexists _; isplitr; swap; · iexact H19
    ipureintro
    refine (View.read_writes_full _ _ _ _ _).trans ?_
    unfold body0_next.sl.r_5 body0_next.sl.r_4 body0_next.sl.r_3 body0_next.sl.r_1
    repeat rw [View.readAt_full]
    simp only [Memref.IsWhole.read_unread]
    repeat rw [readAt_sel]
    rfl
  isplitl [H20]
  · iexists _; isplitr; swap; · iexact H20
    ipureintro
    refine (View.read_writes_full _ _ _ _ _).trans ?_
    unfold body0_next.sl.r_2 body0_next.sl.r body0_next.sl.cst_16
    repeat rw [View.readAt_full]
    simp only [Memref.IsWhole.read_unread]
    rfl
  iexists _; isplitr; swap; · iexact H21
  ipureintro
  refine (View.read_writes_full _ _ _ _ _).trans ?_
  unfold body0_next.sl.r_8 body0_next.sl.r_7 body0_next.sl.r_6 body0_next.sl.r_3 body0_next.sl.r_1 body0_next.sl.cst_16
  repeat rw [View.readAt_full]
  simp only [Memref.IsWhole.read_unread]
  rfl

end Body

end Sindy
-- ==== Proof.Region0.lean ====
module

public import proofs.«01_k».proof.Proof.Body0

/-! The first `pallas_call` (the forward stage): the proof data of its
pipeline at arbitrary contents `V` of the buffers. -/

@[expose] public section

set_option maxRecDepth 16384

noncomputable section

namespace Sindy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pipeline's proof data at the contents `V` -/

section Regions

variable (V : (c : Dev nD) → (b : Ref sig .tc) → Buf (Elt F) ((c : Thread nD τ).loc b))

/-- The block of window `w` at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks the body reads at point `t`. -/
def in0 (c : Dev nD) (t : Fin cfg0.N) : In0 F where
  x0 := blk0 V c 0 t
  x1 := blk0 V c 1 t
  x2 := blk0 V c 2 t
  x3 := blk0 V c 3 t
  x4 := blk0 V c 4 t
  x5 := blk0 V c 5 t
  x6 := blk0 V c 6 t
  x7 := blk0 V c 7 t
  x8 := blk0 V c 8 t
  x9 := blk0 V c 9 t
  x10 := blk0 V c 10 t
  x11 := blk0 V c 11 t
  x12 := blk0 V c 12 t
  x13 := blk0 V c 13 t
  x14 := blk0 V c 14 t
  x15 := blk0 V c 15 t
  x16 := blk0 V c 16 t

/-- The point numbered `n`, modulo the grid. -/
def pt0 (n : ℕ) : Fin cfg0.N := ⟨n % 16, Nat.lt_of_lt_of_eq (Nat.mod_lt n (by decide)) N_0.symm⟩

theorem pt0_val (t : Fin cfg0.N) : pt0 t.val = t :=
  Fin.ext (Nat.mod_eq_of_lt (Nat.lt_of_lt_of_eq t.isLt N_0))

/-- The encoder's accumulator after `n + 1` points. -/
def geAcc (c : Dev nD) : ℕ → Vec F S1x256x128 .f32
  | 0 => (in0 V c (pt0 0)).geFirst
  | n + 1 => (in0 V c (pt0 (n + 1))).geNext (geAcc c n)

/-- The decoder's accumulator after `n + 1` points. -/
def gdAcc (c : Dev nD) : ℕ → Vec F S1x128x256 .f32
  | 0 => (in0 V c (pt0 0)).gdFirst
  | n + 1 => (in0 V c (pt0 (n + 1))).gdNext (gdAcc c n)

theorem geAcc_zero (c : Dev nD) (t : Fin cfg0.N) (h : t.val = 0) : geAcc V c t.val = (in0 V c t).geFirst := by
  rw [← pt0_val t, h]; rfl

theorem gdAcc_zero (c : Dev nD) (t : Fin cfg0.N) (h : t.val = 0) : gdAcc V c t.val = (in0 V c t).gdFirst := by
  rw [← pt0_val t, h]; rfl

theorem geAcc_pos (c : Dev nD) (t : Fin cfg0.N) (h : t.val ≠ 0) : geAcc V c t.val = (in0 V c t).geNext (geAcc V c (t.val - 1)) := by
  obtain ⟨n, hn⟩ := Nat.exists_eq_succ_of_ne_zero h
  have e := pt0_val t
  rw [hn] at e ⊢
  rw [← e]; rfl

theorem gdAcc_pos (c : Dev nD) (t : Fin cfg0.N) (h : t.val ≠ 0) : gdAcc V c t.val = (in0 V c t).gdNext (gdAcc V c (t.val - 1)) := by
  obtain ⟨n, hn⟩ := Nat.exists_eq_succ_of_ne_zero h
  have e := pt0_val t
  rw [hn] at e ⊢
  rw [← e]; rfl

/-- What the body leaves in each window's buffer. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => blk0 V c 9 t
    | ⟨10, _⟩ => blk0 V c 10 t
    | ⟨11, _⟩ => blk0 V c 11 t
    | ⟨12, _⟩ => blk0 V c 12 t
    | ⟨13, _⟩ => blk0 V c 13 t
    | ⟨14, _⟩ => blk0 V c 14 t
    | ⟨15, _⟩ => blk0 V c 15 t
    | ⟨16, _⟩ => blk0 V c 16 t
    | ⟨17, _⟩ => (in0 V c t).z
    | ⟨18, _⟩ => (in0 V c t).xb
    | ⟨19, _⟩ => (in0 V c t).dzb
    | ⟨20, _⟩ => geAcc V c t.val
    | ⟨21, _⟩ => gdAcc V c t.val
    | ⟨_ + 22, h⟩ => absurd h (Nat.not_lt.2 (Nat.le_add_left _ _))
  Φ _ := Pipeline.ΦA spec0 c
  q _ := fullShare
  owed _ := 0

theorem dat0_A (c : Dev nD) (w : Fin cfg0.W) : (dat0 V c).A w = V c (Pipeline.arrRef spec0 w) := by
  dsimp only [dat0]

set_option maxHeartbeats 4000000 in
/-- An input's buffer holds the window's block whenever the body runs. -/
theorem before0 (c : Dev nD) (w : Fin cfg0.W) (hw : w.val < 17) (t : Fin cfg0.N) (d) :
    (dat0 V c).before w t d = (dat0 V c).after w t := by
  change Fin 22 at w
  fin_cases w <;> first
    | exact absurd hw (by decide)
    | exact ((dat0 V c).before_in_eq_fetched _ rfl (fun _ => rfl) (fun _ _ _ => rfl) (fun _ => rfl) t d).trans rfl

/-- The accumulators are started at the first point and added to at the others. -/
theorem cond0_iff : ∀ t : Fin grid0.N, (k0_cond1 (grid0.coords t) = 1#1 ↔ t.val = 0) ∧ (k0_cond2 (grid0.coords t) = 1#1 ↔ t.val ≠ 0)
    ∧ (k0_cond3 (grid0.coords t) = 1#1 ↔ t.val = 0) ∧ (k0_cond4 (grid0.coords t) = 1#1 ↔ t.val ≠ 0) := by decide +kernel

/-- So no point leaves them idle. -/
theorem live0 : ∀ t : Fin grid0.N, cfg0.idle 20 (grid0.coords t) = false ∧ cfg0.idle 21 (grid0.coords t) = false := by
  decide +kernel

/-- Their buffers hold something the body left from the second point on. -/
def fresh0 : ℕ → Bool
  | 0 => true
  | n + 1 => n == 15

theorem fresh0_false : ∀ t : Fin cfg0.N, t.val ≠ 0 → fresh0 t.val = false := by decide +kernel

/-- After the first point the accumulators are found as the point before left them. -/
theorem before0_20 (c : Dev nD) (t : Fin cfg0.N) (h : t.val ≠ 0) (d) : (dat0 V c).before 20 t d = geAcc V c (t.val - 1) := by
  rw [Dat.before_out_traj _ 20 rfl (fun _ _ => rfl) (fun s _ hi _ => absurd (hi.symm.trans (live0 s).1) (by decide)) t.val t rfl d,
    if_neg (by
      rw [Pipeline.Cfg.fresh_tab cfg0 20 fresh0 rfl (by decide +kernel) t.val (Nat.le_of_lt t.isLt), fresh0_false t h]
      exact Bool.false_ne_true)]
  dsimp only [dat0]

theorem before0_21 (c : Dev nD) (t : Fin cfg0.N) (h : t.val ≠ 0) (d) : (dat0 V c).before 21 t d = gdAcc V c (t.val - 1) := by
  rw [Dat.before_out_traj _ 21 rfl (fun _ _ => rfl) (fun s _ hi _ => absurd (hi.symm.trans (live0 s).2) (by decide)) t.val t rfl d,
    if_neg (by
      rw [Pipeline.Cfg.fresh_tab cfg0 21 fresh0 rfl (by decide +kernel) t.val (Nat.le_of_lt t.isLt), fresh0_false t h]
      exact Bool.false_ne_true)]
  dsimp only [dat0]

theorem after0_20 (c : Dev nD) (t : Fin cfg0.N) : (dat0 V c).after 20 t = geAcc V c t.val := by dsimp only [dat0]
theorem after0_21 (c : Dev nD) (t : Fin cfg0.N) : (dat0 V c).after 21 t = gdAcc V c t.val := by dsimp only [dat0]

/-- A window the body does not leave idle at a point holds what the point leaves. -/
theorem leaves_of_live {cfg : Cfg sig Λ₀} {c : Dev nD} (dat : Dat τ (Elt F) Unit ℕ (UR sig nD τ) ℕ cfg c) (w : Fin cfg.W) (t : Fin cfg.N)
    (hi : cfg.idle w (cfg.grid.coords t) = false) :
    (dat.leavesExact w t : sProp 𝕄) = owns (c : Thread nD τ) ((cfg.win w).stage (cfg.slots t w)) fullShare (dat.after w t) := by
  unfold Dat.leavesExact
  rw [hi]

/-- The buffers as a point of the pipeline finds them. -/
def pre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d))
    ∗ (∃ d, owns (c : Thread nD τ) (win0_9.stage (cfg0.slots t 9)) fullShare ((dat0 V c).before 9 t d))
    ∗ (∃ d, owns (c : Thread nD τ) (win0_10.stage (cfg0.slots t 10)) fullShare ((dat0 V c).before 10 t d))
    ∗ (∃ d, owns (c : Thread nD τ) (win0_11.stage (cfg0.slots t 11)) fullShare ((dat0 V c).before 11 t d))
    ∗ (∃ d, owns (c : Thread nD τ) (win0_12.stage (cfg0.slots t 12)) fullShare ((dat0 V c).before 12 t d))
    ∗ (∃ d, owns (c : Thread nD τ) (win0_13.stage (cfg0.slots t 13)) fullShare ((dat0 V c).before 13 t d))
    ∗ (∃ d, owns (c : Thread nD τ) (win0_14.stage (cfg0.slots t 14)) fullShare ((dat0 V c).before 14 t d))
    ∗ (∃ d, owns (c : Thread nD τ) (win0_15.stage (cfg0.slots t 15)) fullShare ((dat0 V c).before 15 t d))
    ∗ (∃ d, owns (c : Thread nD τ) (win0_16.stage (cfg0.slots t 16)) fullShare ((dat0 V c).before 16 t d))
    ∗ (∃ d, owns (c : Thread nD τ) (win0_17.stage (cfg0.slots t 17)) fullShare ((dat0 V c).before 17 t d))
    ∗ (∃ d, owns (c : Thread nD τ) (win0_18.stage (cfg0.slots t 18)) fullShare ((dat0 V c).before 18 t d))
    ∗ (∃ d, owns (c : Thread nD τ) (win0_19.stage (cfg0.slots t 19)) fullShare ((dat0 V c).before 19 t d))
    ∗ (∃ d, owns (c : Thread nD τ) (win0_20.stage (cfg0.slots t 20)) fullShare ((dat0 V c).before 20 t d))
    ∗ (∃ d, owns (c : Thread nD τ) (win0_21.stage (cfg0.slots t 21)) fullShare ((dat0 V c).before 21 t d)))

/-- The buffers as it leaves them. -/
def post0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ owns (c : Thread nD τ) (win0_4.stage (cfg0.slots t 4)) fullShare ((dat0 V c).after 4 t)
    ∗ owns (c : Thread nD τ) (win0_5.stage (cfg0.slots t 5)) fullShare ((dat0 V c).after 5 t)
    ∗ owns (c : Thread nD τ) (win0_6.stage (cfg0.slots t 6)) fullShare ((dat0 V c).after 6 t)
    ∗ owns (c : Thread nD τ) (win0_7.stage (cfg0.slots t 7)) fullShare ((dat0 V c).after 7 t)
    ∗ owns (c : Thread nD τ) (win0_8.stage (cfg0.slots t 8)) fullShare ((dat0 V c).after 8 t)
    ∗ owns (c : Thread nD τ) (win0_9.stage (cfg0.slots t 9)) fullShare ((dat0 V c).after 9 t)
    ∗ owns (c : Thread nD τ) (win0_10.stage (cfg0.slots t 10)) fullShare ((dat0 V c).after 10 t)
    ∗ owns (c : Thread nD τ) (win0_11.stage (cfg0.slots t 11)) fullShare ((dat0 V c).after 11 t)
    ∗ owns (c : Thread nD τ) (win0_12.stage (cfg0.slots t 12)) fullShare ((dat0 V c).after 12 t)
    ∗ owns (c : Thread nD τ) (win0_13.stage (cfg0.slots t 13)) fullShare ((dat0 V c).after 13 t)
    ∗ owns (c : Thread nD τ) (win0_14.stage (cfg0.slots t 14)) fullShare ((dat0 V c).after 14 t)
    ∗ owns (c : Thread nD τ) (win0_15.stage (cfg0.slots t 15)) fullShare ((dat0 V c).after 15 t)
    ∗ owns (c : Thread nD τ) (win0_16.stage (cfg0.slots t 16)) fullShare ((dat0 V c).after 16 t)
    ∗ owns (c : Thread nD τ) (win0_17.stage (cfg0.slots t 17)) fullShare ((dat0 V c).after 17 t)
    ∗ owns (c : Thread nD τ) (win0_18.stage (cfg0.slots t 18)) fullShare ((dat0 V c).after 18 t)
    ∗ owns (c : Thread nD τ) (win0_19.stage (cfg0.slots t 19)) fullShare ((dat0 V c).after 19 t)
    ∗ (dat0 V c).leavesExact 20 t ∗ (dat0 V c).leavesExact 21 t)

set_option maxHeartbeats 4000000 in
/-- The body at any point of the grid. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0 V c 0 (by decide), before0 V c 1 (by decide), before0 V c 2 (by decide), before0 V c 3 (by decide), before0 V c 4 (by decide),
    before0 V c 5 (by decide), before0 V c 6 (by decide), before0 V c 7 (by decide), before0 V c 8 (by decide), before0 V c 9 (by decide),
    before0 V c 10 (by decide), before0 V c 11 (by decide), before0 V c 12 (by decide), before0 V c 13 (by decide), before0 V c 14 (by decide),
    before0 V c 15 (by decide), before0 V c 16 (by decide)]
  rw [show (dat0 V c).Φ t.succ = (dat0 V c).Φ t.castSucc from rfl,
    show (dat0 V c).owesAt () t.succ = (dat0 V c).owesAt () t.castSucc from rfl,
    leaves_of_live (dat0 V c) 20 t (live0 t).1, leaves_of_live (dat0 V c) 21 t (live0 t).2, after0_20, after0_21]
  by_cases h : t.val = 0
  · rw [geAcc_zero V c t h, gdAcc_zero V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
      ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩,
      ⟨%d18, H18⟩, ⟨%d19, H19⟩, ⟨%d20, H20⟩, ⟨%d21, H21⟩⟩
    iapply (body0_first c (grid0.coords t) (in0 V c t) _ _ _ _ _ _ _ _ _ _ _ _ _ _ _ _ _ _ _ _ _ _
      ((cond0_iff t).1.mpr h) (fun e => (cond0_iff t).2.1.mp e h) ((cond0_iff t).2.2.1.mpr h) (fun e => (cond0_iff t).2.2.2.mp e h) Set.univ _)
    unfold ins0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    isplitl [H20]; · iexists _; iexact H20
    isplitl [H21]; · iexists _; iexact H21
    iintro ⟨H0, H1, H2, H3, H4, H5, H6, H7, H8, H9, H10, H11, H12, H13, H14, H15, H16, H17, H18, H19, H20, H21⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · simp only [before0_20 V c t h, before0_21 V c t h]
    rw [geAcc_pos V c t h, gdAcc_pos V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
      ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩,
      ⟨%d18, H18⟩, ⟨%d19, H19⟩, ⟨%d20, H20⟩, ⟨%d21, H21⟩⟩
    iapply (body0_next c (grid0.coords t) (in0 V c t) _ _ _ _ _ _ _ _ _ _ _ _ _ _ _ _ _ _ _ _ _ _
      (fun e => h ((cond0_iff t).1.mp e)) ((cond0_iff t).2.1.mpr h) (fun e => h ((cond0_iff t).2.2.1.mp e)) ((cond0_iff t).2.2.2.mpr h)
      (geAcc V c (t.val - 1)) (gdAcc V c (t.val - 1)) Set.univ _)
    unfold ins0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    isplitl [H20]; · iexact H20
    isplitl [H21]; · iexact H21
    iintro ⟨H0, H1, H2, H3, H4, H5, H6, H7, H8, H9, H10, H11, H12, H13, H14, H15, H16, H17, H18, H19, H20, H21⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- The body table's row is the body at the point's buffers. -/
theorem row0 (t : Fin cfg0.N) : defs₀ (F := F) .tc cfg0.body (cfg0.bodyArgs t (cfg0.slots t)) = bodyAt0 t := by
  unfold defs₀; rw [Defs.onTc_tc]

/-- The body obligation of the first pipeline. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

end Regions

end Sindy
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

/-! The second `pallas_call` (the streaming stage): what its body computes at a grid point, and the proof data of its
pipeline at arbitrary contents `V` of the buffers. -/

@[expose] public section

set_option maxRecDepth 16384

noncomputable section

namespace Sindy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on arbitrary whole buffers -/

section Body

variable (c : Dev nD) (i : grid1.Coords)
  {arg2 : Memref sig .tc .vmem S4096x512 .f32} (harg2 : arg2.IsWhole) {arg3 : Memref sig .tc .vmem S3x4096 .f32} (harg3 : arg3.IsWhole)
  {arg4 : Memref sig .tc .vmem S1x256x128 .f32} (harg4 : arg4.IsWhole) {arg5 : Memref sig .tc .vmem S1x128x256 .f32} (harg5 : arg5.IsWhole)
  {arg6 : Memref sig .tc .vmem S512x256 .f32} (harg6 : arg6.IsWhole) {arg7 : Memref sig .tc .vmem S256x128 .f32} (harg7 : arg7.IsWhole)
  {arg8 : Memref sig .tc .vmem S128x3 .f32} (harg8 : arg8.IsWhole) {arg9 : Memref sig .tc .vmem S3x128 .f32} (harg9 : arg9.IsWhole)
  {arg10 : Memref sig .tc .vmem S128x256 .f32} (harg10 : arg10.IsWhole) {arg11 : Memref sig .tc .vmem S256x512 .f32} (harg11 : arg11.IsWhole)
  {arg12 : Memref sig .tc .vmem S3x4096 .f32} (harg12 : arg12.IsWhole) {arg13 : Memref sig .tc .vmem S4096x512 .f32} (harg13 : arg13.IsWhole)
  {arg14 : Memref sig .tc .vmem S512x3 .f32} (harg14 : arg14.IsWhole) {arg15 : Memref sig .tc .vmem S3x512 .f32} (harg15 : arg15.IsWhole)
  (x0 : Vec F S4096x512 .f32) (x1 : Vec F S3x4096 .f32) (x2 : Vec F S1x256x128 .f32) (x3 : Vec F S1x128x256 .f32) (x4 : Vec F S512x256 .f32)
  (x5 : Vec F S256x128 .f32) (x6 : Vec F S128x3 .f32) (x7 : Vec F S3x128 .f32) (x8 : Vec F S128x256 .f32) (x9 : Vec F S256x512 .f32)

/-- The ten input buffers holding their blocks. -/
abbrev ins1 (arg2 : Memref sig .tc .vmem S4096x512 .f32) (arg3 : Memref sig .tc .vmem S3x4096 .f32)
    (arg4 : Memref sig .tc .vmem S1x256x128 .f32) (arg5 : Memref sig .tc .vmem S1x128x256 .f32)
    (arg6 : Memref sig .tc .vmem S512x256 .f32) (arg7 : Memref sig .tc .vmem S256x128 .f32)
    (arg8 : Memref sig .tc .vmem S128x3 .f32) (arg9 : Memref sig .tc .vmem S3x128 .f32)
    (arg10 : Memref sig .tc .vmem S128x256 .f32) (arg11 : Memref sig .tc .vmem S256x512 .f32) (T : sProp 𝕄) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6 ∗ owns (c : Thread nD τ) arg9 fullShare x7 ∗ owns (c : Thread nD τ) arg10 fullShare x8
    ∗ owns (c : Thread nD τ) arg11 fullShare x9 ∗ T)

set_option maxHeartbeats 1000000 in
/-- At the first grid point the body computes the two Jacobian products from the accumulators and the weights, keeps them,
    and multiplies the point's blocks by them. -/
theorem body1_first (h : k1_cond1 i = 1#1) (E : Set ℕ) (K : PUnit → sProp 𝕄) :
    ins1 c x0 x1 x2 x3 x4 x5 x6 x7 x8 x9 arg2 arg3 arg4 arg5 arg6 arg7 arg8 arg9 arg10 arg11
      iprop((∃ d, owns (c : Thread nD τ) arg12 fullShare d) ∗ (∃ d, owns (c : Thread nD τ) arg13 fullShare d)
        ∗ (∃ d, owns (c : Thread nD τ) arg14 fullShare d) ∗ (∃ d, owns (c : Thread nD τ) arg15 fullShare d)
        ∗ (ins1 c x0 x1 x2 x3 x4 x5 x6 x7 x8 x9 arg2 arg3 arg4 arg5 arg6 arg7 arg8 arg9 arg10 arg11
            iprop(owns (c : Thread nD τ) arg12 fullShare (k1_pay3 (k1_pay1 x2 x4 x5 x6) x0)
              ∗ owns (c : Thread nD τ) arg13 fullShare (k1_pay4 x1 (k1_pay2 x3 x7 x8 x9))
              ∗ owns (c : Thread nD τ) arg14 fullShare (k1_pay1 x2 x4 x5 x6) ∗ owns (c : Thread nD τ) arg15 fullShare (k1_pay2 x3 x7 x8 x9)) -∗ K ⟨⟩))
      ⊢ wp frame (wpE (defs₀ (F := F)) Variants.none c none) E
          (cc1_sindy_stream i arg2 harg2 arg3 harg3 arg4 harg4 arg5 harg5 arg6 harg6 arg7 harg7 arg8 harg8 arg9 harg9 arg10 harg10 arg11 harg11
            arg12 harg12 arg13 harg13 arg14 harg14 arg15 harg15) K := by
  simp only [cc1_sindy_stream_eq_skeleton]; unfold cc1_sindy_stream_skel
  unfold ins1 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%d10, %f10, -, H10⟩, ⟨%d11, %f11, -, H11⟩, ⟨%d12, %f12, -, H12⟩,
    ⟨%d13, %f13, -, H13⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8; obtain rfl := harg11.eq_unread hf9
  sl_exec (disch := sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    unfold body1_first.sl.v3 body1_first.sl.H12_1
    refine (View.read_writes_full _ _ _ _ _).trans ?_
    rw [View.readCov_full]; repeat rw [View.readAt_full]
    simp only [Memref.IsWhole.read_unread]
  isplitl [H11]
  · iexists _; isplitr; swap; · iexact H11
    ipureintro
    unfold body1_first.sl.v10 body1_first.sl.H13_1
    refine (View.read_writes_full _ _ _ _ _).trans ?_
    rw [View.readCov_full]; repeat rw [View.readAt_full]
    simp only [Memref.IsWhole.read_unread]
  isplitl [H12]
  · iexists _; isplitr; swap; · iexact H12
    ipureintro
    unfold body1_first.sl.H12_1
    refine (View.read_writes_full _ _ _ _ _).trans ?_
    repeat rw [View.readAt_full]
    simp only [Memref.IsWhole.read_unread]
  iexists _; isplitr; swap; · iexact H13
  ipureintro
  unfold body1_first.sl.H13_1
  refine (View.read_writes_full _ _ _ _ _).trans ?_
  repeat rw [View.readAt_full]
  simp only [Memref.IsWhole.read_unread]

set_option maxHeartbeats 1000000 in
/-- At every later grid point the body multiplies the point's blocks by the two products it kept. -/
theorem body1_next (h : ¬ k1_cond1 i = 1#1) (x12 : Vec F S512x3 .f32) (x13 : Vec F S3x512 .f32) (E : Set ℕ) (K : PUnit → sProp 𝕄) :
    ins1 c x0 x1 x2 x3 x4 x5 x6 x7 x8 x9 arg2 arg3 arg4 arg5 arg6 arg7 arg8 arg9 arg10 arg11
      iprop((∃ d, owns (c : Thread nD τ) arg12 fullShare d) ∗ (∃ d, owns (c : Thread nD τ) arg13 fullShare d)
        ∗ owns (c : Thread nD τ) arg14 fullShare x12 ∗ owns (c : Thread nD τ) arg15 fullShare x13
        ∗ (ins1 c x0 x1 x2 x3 x4 x5 x6 x7 x8 x9 arg2 arg3 arg4 arg5 arg6 arg7 arg8 arg9 arg10 arg11
            iprop(owns (c : Thread nD τ) arg12 fullShare (k1_pay3 x12 x0) ∗ owns (c : Thread nD τ) arg13 fullShare (k1_pay4 x1 x13)
              ∗ owns (c : Thread nD τ) arg14 fullShare x12 ∗ owns (c : Thread nD τ) arg15 fullShare x13) -∗ K ⟨⟩))
      ⊢ wp frame (wpE (defs₀ (F := F)) Variants.none c none) E
          (cc1_sindy_stream i arg2 harg2 arg3 harg3 arg4 harg4 arg5 harg5 arg6 harg6 arg7 harg7 arg8 harg8 arg9 harg9 arg10 harg10 arg11 harg11
            arg12 harg12 arg13 harg13 arg14 harg14 arg15 harg15) K := by
  simp only [cc1_sindy_stream_eq_skeleton]; unfold cc1_sindy_stream_skel
  unfold ins1 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%d10, %f10, -, H10⟩, ⟨%d11, %f11, -, H11⟩, ⟨%f12, %hf12, H12⟩,
    ⟨%f13, %hf13, H13⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8; obtain rfl := harg11.eq_unread hf9
  obtain rfl := harg14.eq_unread hf12; obtain rfl := harg15.eq_unread hf13
  sl_exec (disch := sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    refine (View.read_writes_full _ _ _ _ _).trans ?_
    repeat rw [View.readAt_full]
    simp only [Memref.IsWhole.read_unread]
  isplitl [H11]
  · iexists _; isplitr; swap; · iexact H11
    ipureintro
    refine (View.read_writes_full _ _ _ _ _).trans ?_
    repeat rw [View.readAt_full]
    simp only [Memref.IsWhole.read_unread]
  isplitl [H12]
  · iexists _; isplitr; · ipureintro; exact harg14.read_unread _
    iexact H12
  iexists _; isplitr; · ipureintro; exact harg15.read_unread _
  iexact H13

end Body

/-! ## The pipeline's proof data at the contents `V` -/

section Regions

variable (V : (c : Dev nD) → (b : Ref sig .tc) → Buf (Elt F) ((c : Thread nD τ).loc b))

/-- The block of window `w` at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the grid. -/
abbrev first1 : Fin cfg1.N := ⟨0, by decide⟩

/-- The encoder's Jacobian product, from the accumulator and the encoder's weights. -/
def jetOf (c : Dev nD) : Vec F S512x3 .f32 := k1_pay1 (blk1 V c 2 first1) (blk1 V c 4 first1) (blk1 V c 5 first1) (blk1 V c 6 first1)

/-- The decoder's Jacobian product, from the accumulator and the decoder's weights. -/
def jdtOf (c : Dev nD) : Vec F S3x512 .f32 := k1_pay2 (blk1 V c 3 first1) (blk1 V c 7 first1) (blk1 V c 8 first1) (blk1 V c 9 first1)

/-- What the body leaves in each window's buffer: the inputs' blocks, the two products of the point's blocks with the
    Jacobian products, and the Jacobian products themselves. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => k1_pay3 (jetOf V c) (blk1 V c 0 t)
    | ⟨11, _⟩ => k1_pay4 (blk1 V c 1 t) (jdtOf V c)
    | ⟨12, _⟩ => jetOf V c
    | ⟨13, _⟩ => jdtOf V c
  Φ _ := Pipeline.ΦA spec1 c
  q _ := fullShare
  owed _ := 0

theorem dat1_A (c : Dev nD) (w : Fin cfg1.W) : (dat1 V c).A w = V c (Pipeline.arrRef spec1 w) := by
  dsimp only [dat1]

/-- An input's buffer holds the window's block whenever the body runs. -/
theorem before1 (c : Dev nD) (w : Fin cfg1.W) (hw : w.val < 10) (t : Fin cfg1.N) (d) :
    (dat1 V c).before w t d = (dat1 V c).after w t := by
  change Fin 14 at w
  fin_cases w <;> first
    | exact absurd hw (by decide)
    | exact ((dat1 V c).before_in_eq_fetched _ rfl (fun _ => rfl) (fun _ _ _ => rfl) (fun _ => rfl) t d).trans rfl

/-- The body's condition holds at the first point alone. -/
theorem cond1_iff : ∀ t : Fin grid1.N, k1_cond1 (grid1.coords t) = 1#1 ↔ t.val = 0 := by decide +kernel

/-- The first point leaves the windows that keep the Jacobian products live, the others idle. -/
theorem idle1 : ∀ t : Fin grid1.N, cfg1.idle 12 (grid1.coords t) = decide (t.val ≠ 0) ∧ cfg1.idle 13 (grid1.coords t) = decide (t.val ≠ 0) := by
  decide +kernel

/-- Their buffers hold something the body left from the second point on. -/
def fresh1 : ℕ → Bool
  | 0 => true
  | n + 1 => n == 15

theorem fresh1_12 (t : Fin cfg1.N) : cfg1.fresh 12 t.val = fresh1 t.val :=
  Pipeline.Cfg.fresh_tab cfg1 12 fresh1 rfl (by decide +kernel) t.val (Nat.le_of_lt t.isLt)

theorem fresh1_13 (t : Fin cfg1.N) : cfg1.fresh 13 t.val = fresh1 t.val :=
  Pipeline.Cfg.fresh_tab cfg1 13 fresh1 rfl (by decide +kernel) t.val (Nat.le_of_lt t.isLt)

theorem fresh1_false : ∀ t : Fin cfg1.N, t.val ≠ 0 → fresh1 t.val = false := by decide +kernel

/-- After the first point the kept products are found in place. -/
theorem before1_12 (c : Dev nD) (t : Fin cfg1.N) (h : t.val ≠ 0) (d) : (dat1 V c).before 12 t d = jetOf V c := by
  rw [Dat.before_out_traj _ 12 rfl (fun _ _ => rfl) (fun _ _ _ _ => rfl) t.val t rfl d,
    if_neg (by rw [fresh1_12, fresh1_false t h]; exact Bool.false_ne_true)]
  dsimp only [dat1]

theorem before1_13 (c : Dev nD) (t : Fin cfg1.N) (h : t.val ≠ 0) (d) : (dat1 V c).before 13 t d = jdtOf V c := by
  rw [Dat.before_out_traj _ 13 rfl (fun _ _ => rfl) (fun _ _ _ _ => rfl) t.val t rfl d,
    if_neg (by rw [fresh1_13, fresh1_false t h]; exact Bool.false_ne_true)]
  dsimp only [dat1]

/-- A buffer that holds what the point is to leave, and held it before, is left as the pipeline wants it. -/
theorem leaves_kept {cfg : Cfg sig Λ₀} {c : Dev nD} (dat : Dat τ (Elt F) Unit ℕ (UR sig nD τ) ℕ cfg c) (w : Fin cfg.W) (t : Fin cfg.N)
    (hb : ∃ d, dat.before w t d = dat.after w t) :
    owns (c : Thread nD τ) ((cfg.win w).stage (cfg.slots t w)) fullShare (dat.after w t) ⊢ (dat.leavesExact w t : sProp 𝕄) := by
  obtain ⟨d, hd⟩ := hb
  unfold Dat.leavesExact
  cases cfg.idle w (cfg.grid.coords t)
  · exact .rfl
  · cases (cfg.win w).flush t
    · dsimp only
      rw [← hd]
      iintro H
      iexists d
      iexact H
    · exact .rfl

/-- A window the body never leaves idle. -/
theorem leaves_live {cfg : Cfg sig Λ₀} {c : Dev nD} (dat : Dat τ (Elt F) Unit ℕ (UR sig nD τ) ℕ cfg c) (w : Fin cfg.W) (t : Fin cfg.N)
    (hi : cfg.idle w (cfg.grid.coords t) = false) :
    (dat.leavesExact w t : sProp 𝕄) = owns (c : Thread nD τ) ((cfg.win w).stage (cfg.slots t w)) fullShare (dat.after w t) := by
  unfold Dat.leavesExact
  rw [hi]

/-- The buffers as a point of the pipeline finds them. -/
def pre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d))
    ∗ (∃ d, owns (c : Thread nD τ) (win1_9.stage (cfg1.slots t 9)) fullShare ((dat1 V c).before 9 t d))
    ∗ (∃ d, owns (c : Thread nD τ) (win1_10.stage (cfg1.slots t 10)) fullShare ((dat1 V c).before 10 t d))
    ∗ (∃ d, owns (c : Thread nD τ) (win1_11.stage (cfg1.slots t 11)) fullShare ((dat1 V c).before 11 t d))
    ∗ (∃ d, owns (c : Thread nD τ) (win1_12.stage (cfg1.slots t 12)) fullShare ((dat1 V c).before 12 t d))
    ∗ (∃ d, owns (c : Thread nD τ) (win1_13.stage (cfg1.slots t 13)) fullShare ((dat1 V c).before 13 t d)))

/-- The buffers as it leaves them. -/
def post1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t)
    ∗ owns (c : Thread nD τ) (win1_5.stage (cfg1.slots t 5)) fullShare ((dat1 V c).after 5 t)
    ∗ owns (c : Thread nD τ) (win1_6.stage (cfg1.slots t 6)) fullShare ((dat1 V c).after 6 t)
    ∗ owns (c : Thread nD τ) (win1_7.stage (cfg1.slots t 7)) fullShare ((dat1 V c).after 7 t)
    ∗ owns (c : Thread nD τ) (win1_8.stage (cfg1.slots t 8)) fullShare ((dat1 V c).after 8 t)
    ∗ owns (c : Thread nD τ) (win1_9.stage (cfg1.slots t 9)) fullShare ((dat1 V c).after 9 t)
    ∗ owns (c : Thread nD τ) (win1_10.stage (cfg1.slots t 10)) fullShare ((dat1 V c).after 10 t)
    ∗ owns (c : Thread nD τ) (win1_11.stage (cfg1.slots t 11)) fullShare ((dat1 V c).after 11 t)
    ∗ (dat1 V c).leavesExact 12 t ∗ (dat1 V c).leavesExact 13 t)

set_option maxHeartbeats 1600000 in
/-- The body at any point of the grid. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1 V c 0 (by decide), before1 V c 1 (by decide), before1 V c 2 (by decide), before1 V c 3 (by decide), before1 V c 4 (by decide), before1 V c 5 (by decide), before1 V c 6 (by decide), before1 V c 7 (by decide), before1 V c 8 (by decide), before1 V c 9 (by decide)]
  rw [show (dat1 V c).Φ t.succ = (dat1 V c).Φ t.castSucc from rfl,
    show (dat1 V c).owesAt () t.succ = (dat1 V c).owesAt () t.castSucc from rfl]
  by_cases h : t.val = 0
  · have ht : t = first1 := Fin.ext h
    rw [leaves_live (dat1 V c) 12 t ((idle1 t).1.trans (by rw [h]; rfl)), leaves_live (dat1 V c) 13 t ((idle1 t).2.trans (by rw [h]; rfl))]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
      ⟨%d10, H10⟩, ⟨%d11, H11⟩, ⟨%d12, H12⟩, ⟨%d13, H13⟩⟩
    subst ht
    iapply (body1_first c (grid1.coords first1) _ _ _ _ _ _ _ _ _ _ _ _ _ _
      (blk1 V c 0 first1) (blk1 V c 1 first1) (blk1 V c 2 first1) (blk1 V c 3 first1) (blk1 V c 4 first1) (blk1 V c 5 first1) (blk1 V c 6 first1) (blk1 V c 7 first1) (blk1 V c 8 first1) (blk1 V c 9 first1)
      ((cond1_iff first1).mpr rfl) Set.univ _)
    unfold ins1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · simp only [before1_12 V c t h, before1_13 V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
      ⟨%d10, H10⟩, ⟨%d11, H11⟩, ⟨%d12, H12⟩, ⟨%d13, H13⟩⟩
    iapply (body1_next c (grid1.coords t) _ _ _ _ _ _ _ _ _ _ _ _ _ _
      (blk1 V c 0 t) (blk1 V c 1 t) (blk1 V c 2 t) (blk1 V c 3 t) (blk1 V c 4 t) (blk1 V c 5 t) (blk1 V c 6 t) (blk1 V c 7 t) (blk1 V c 8 t) (blk1 V c 9 t)
      (fun e => h ((cond1_iff t).mp e)) (jetOf V c) (jdtOf V c) Set.univ _)
    unfold ins1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iapply (leaves_kept (dat1 V c) 12 t ⟨_, before1_12 V c t h (jetOf V c)⟩)
      iexact H12
    iapply (leaves_kept (dat1 V c) 13 t ⟨_, before1_13 V c t h (jdtOf V c)⟩)
    iexact H13

/-- The body table's row is the body at the point's buffers. -/
theorem row1 (t : Fin cfg1.N) : defs₀ (F := F) .tc cfg1.body (cfg1.bodyArgs t (cfg1.slots t)) = bodyAt1 t := by
  unfold defs₀; rw [Defs.onTc_tc]

/-- The body obligation of the second pipeline. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

end Regions

end Sindy
-- ==== Proof.Run.lean ====
module

public import proofs.«01_k».proof.Proof.Region0
public import proofs.«01_k».proof.Proof.Region1

/-! The whole program: its buffers' contents from one segment to the next, the two pipelines as segments, and the run. -/

@[expose] public section

set_option maxRecDepth 16384

noncomputable section

namespace Sindy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers at the segments' boundaries -/

/-- At the launch. -/
abbrev W0 : Dev nD → Valuation τ sig (Elt F) := fun c b => (s₀ m ρ).mem ((c : Dev nD), b)
/-- After the host operations before the first pipeline. -/
abbrev W1 : Dev nD → Valuation τ sig (Elt F) := fun c => StableHlo.after hostOps0 (W0 m ρ c)
/-- The same by TensorCore reference. -/
abbrev at1 : (c : Dev nD) → (b : Ref sig .tc) → Buf (Elt F) ((c : Thread nD τ).loc b) := fun c b => W1 m ρ c b

/-- After the first pipeline: its arrays at what it leaves in them, every other buffer as before. -/
def W2 (c : Dev nD) : Valuation τ sig (Elt F) :=
  Pipeline.withArrays spec0 c (W1 m ρ c) fun w => (dat0 (at1 m ρ) c).arrAt w cfg0.N
/-- The same by TensorCore reference. -/
abbrev at2 : (c : Dev nD) → (b : Ref sig .tc) → Buf (Elt F) ((c : Thread nD τ).loc b) := fun c b => W2 m ρ c b

theorem W2_arr (c : Dev nD) (w : Fin cfg0.W) : W2 m ρ c (Proc.devRef .tc (Pipeline.arrRef spec0 w)) = (dat0 (at1 m ρ) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- A buffer that is no output array of the pipeline is as before. -/
theorem W2_of (c : Dev nD) (b : Ref sig .tc) (h : ∀ w : Fin cfg0.W, Pipeline.arrRef spec0 w = b → (cfg0.win w).isOut = false) :
    W2 m ρ c (Proc.devRef .tc b) = W1 m ρ c (Proc.devRef .tc b) := by
  by_cases hw : ∃ w : Fin cfg0.W, Pipeline.arrRef spec0 w = b
  · obtain ⟨w, rfl⟩ := hw
    exact (W2_arr m ρ c w).trans (((dat0 (at1 m ρ) c).arrAt_in w (h w rfl) _).trans (dat0_A (at1 m ρ) c w))
  · exact W2_of_ne m ρ c b fun w e => hw ⟨w, e⟩

/-- After the second pipeline: its arrays at what it leaves in them, every other buffer as before. -/
def W3 (c : Dev nD) : Valuation τ sig (Elt F) :=
  Pipeline.withArrays spec1 c (W2 m ρ c) fun w => (dat1 (at2 m ρ) c).arrAt w cfg1.N
/-- The same by TensorCore reference. -/
abbrev at3 : (c : Dev nD) → (b : Ref sig .tc) → Buf (Elt F) ((c : Thread nD τ).loc b) := fun c b => W3 m ρ c b

theorem W3_arr (c : Dev nD) (w : Fin cfg1.W) : W3 m ρ c (Proc.devRef .tc (Pipeline.arrRef spec1 w)) = (dat1 (at2 m ρ) c).arrAt w cfg1.N := by
  unfold W3; exact Pipeline.withArrays_arr spec1 launch1.win.arr_inj c _ _ w

theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-- A buffer that is no output array of the pipeline is as before. -/
theorem W3_of (c : Dev nD) (b : Ref sig .tc) (h : ∀ w : Fin cfg1.W, Pipeline.arrRef spec1 w = b → (cfg1.win w).isOut = false) :
    W3 m ρ c (Proc.devRef .tc b) = W2 m ρ c (Proc.devRef .tc b) := by
  by_cases hw : ∃ w : Fin cfg1.W, Pipeline.arrRef spec1 w = b
  · obtain ⟨w, rfl⟩ := hw
    exact (W3_arr m ρ c w).trans (((dat1 (at2 m ρ) c).arrAt_in w (h w rfl) _).trans (dat1_A (at2 m ρ) c w))
  · exact W3_of_ne m ρ c b fun w e => hw ⟨w, e⟩

/-- At the end, after the host operations that follow the second pipeline. -/
abbrev W4 : Dev nD → Valuation τ sig (Elt F) := fun c => StableHlo.after hostOps2 (W3 m ρ c)

/-- What the host operations before the pipelines write, -/
abbrev written0 : List (Ref sig .tc) := [main_cst, main_cst_0, main_v0, main_v1, main_v2]
/-- and those after them. -/
abbrev written2 : List (Ref sig .tc) := [main_v5, main_v6, main_v7]

theorem writes0 : (hostOps0 : List (HloOp τ sig (Elt F))).Forall fun op => op.writes ⊆ (written0.map (Proc.devRef (τ := τ) .tc)).toFinset :=
  StableHlo.forall_writes_sub_of_map rfl

theorem writes2 : (hostOps2 : List (HloOp τ sig (Elt F))).Forall fun op => op.writes ⊆ (written2.map (Proc.devRef (τ := τ) .tc)).toFinset :=
  StableHlo.forall_writes_sub_of_map rfl

theorem W1_of (c : Dev nD) (b : Ref sig .tc) (h : b ∉ written0) : W1 m ρ c (Proc.devRef .tc b) = W0 m ρ c (Proc.devRef .tc b) :=
  StableHlo.after_of_writes_sub hostOps0 _ writes0 h

theorem W4_of (c : Dev nD) (b : Ref sig .tc) (h : b ∉ written2) : W4 m ρ c (Proc.devRef .tc b) = W3 m ρ c (Proc.devRef .tc b) :=
  StableHlo.after_of_writes_sub hostOps2 _ writes2 h

/-- The program's arguments. -/
abbrev argList : List (Ref sig .tc) :=
  [main_arg0, main_arg1, main_arg2, main_arg3, main_arg4, main_arg5, main_arg6, main_arg7, main_arg8, main_arg9, main_arg10, main_arg11,
    main_arg12, main_arg13, main_arg14, main_arg15, main_arg16]

/-- No segment changes an argument. -/
theorem args_kept : ∀ a ∈ argList, a ∉ written0 ∧ a ∉ written2
    ∧ (∀ w : Fin cfg0.W, Pipeline.arrRef spec0 w = a → (cfg0.win w).isOut = false)
    ∧ ∀ w : Fin cfg1.W, Pipeline.arrRef spec1 w = a → (cfg1.win w).isOut = false :=
  ListAll.forall_mem_of_all_decide (by decide +kernel)

theorem W1_arg (c : Dev nD) (a : Ref sig .tc) (ha : a ∈ argList) : W1 m ρ c (Proc.devRef .tc a) = m ((c : Thread nD τ).loc a) :=
  W1_of m ρ c a (args_kept a ha).1

theorem W2_arg (c : Dev nD) (a : Ref sig .tc) (ha : a ∈ argList) : W2 m ρ c (Proc.devRef .tc a) = m ((c : Thread nD τ).loc a) :=
  (W2_of m ρ c a (args_kept a ha).2.2.1).trans (W1_arg m ρ c a ha)

theorem W4_arg (c : Dev nD) (a : Ref sig .tc) (ha : a ∈ argList) : W4 m ρ c (Proc.devRef .tc a) = m ((c : Thread nD τ).loc a) :=
  (W4_of m ρ c a (args_kept a ha).2.1).trans ((W3_of m ρ c a (args_kept a ha).2.2.2).trans (W2_arg m ρ c a ha))

/-! ## The segments -/

/-- No pipeline has a prefetched table. -/
abbrev tabs : (p : Fin 2) → (pcfgs (F := F) p).Adm := fun p => (cfgs p).toPCfg_adm
/-- Each pipeline's proof data at its entry contents. -/
def dats : (p : Fin 2) → (c : Dev nD) → Dat τ (Elt F) Unit ℕ (UR sig nD τ) ℕ (Pipeline.pin (pcfgs (F := F)) tabs p) c
  | ⟨0, _⟩ => fun c => dat0 (at1 m ρ) c
  | ⟨1, _⟩ => fun c => dat1 (at2 m ρ) c
/-- No core owes another anything. -/
abbrev lvls : GSem nD τ sig → Finset Unit := fun _ => ∅
@[inherit_doc lvls] abbrev lvl : GSem nD τ sig → Unit → ℕ := fun _ _ => 0
/-- What a core holds beside the buffers. -/
abbrev rest (c : Dev nD) : sProp 𝕄 := iprop((∃ r, prngReg c r) ∗ ∃ W, owes (c : Thread nD τ) (0 : CellTallies nD τ sig Unit) W)

/-- A core that owes nothing owes what a pipeline that owes nothing asks for, -/
theorem owes_in {cfg : Cfg sig Λ₀} {c : Dev nD} (d : Dat τ (Elt F) Unit ℕ (UR sig nD τ) ℕ cfg c) (t : Fin (cfg.N + 1)) (h : d.owed t = 0)
    (hr : d.recorded t = Set.univ) :
    iprop(∃ W, owes (c : Thread nD τ) (0 : CellTallies nD τ sig Unit) W) ⊢ (d.owesAt () t : sProp 𝕄) := by
  unfold Pipeline.Dat.owesAt Pipeline.owesWithin
  rw [h]
  iintro ⟨%W, H⟩
  iexists W
  isplitr; · ipureintro; exact fun _ _ => Or.inl (hr ▸ trivial)
  iexact H

/-- and conversely. -/
theorem owes_out {cfg : Cfg sig Λ₀} {c : Dev nD} (d : Dat τ (Elt F) Unit ℕ (UR sig nD τ) ℕ cfg c) (t : Fin (cfg.N + 1)) (h : d.owed t = 0) :
    (d.owesAt () t : sProp 𝕄) ⊢ iprop(∃ W, owes (c : Thread nD τ) (0 : CellTallies nD τ sig Unit) W) := by
  unfold Pipeline.Dat.owesAt Pipeline.owesWithin
  rw [h]
  iintro ⟨%W, -, H⟩
  iexists W
  iexact H

set_option backward.isDefEq.respectTransparency.types false in
/-- The first pipeline as a segment: entered with every unscoped buffer at the contents before it, left with them at the contents after it. -/
def seg0 : Pipeline.RegionSeg (pcfgs (F := F)) tabs (dats m ρ) () defs₀ Variants.none lvls lvl 0 where
  win := launch0.win.to₀
  block_pos := launch0.block_pos
  stage_whole := launch0.stage_whole
  K := PEmpty
  osem k := k.elim
  ho := Pipeline.OwnSemFacts.none _
  hbody c := (obligation0 (at1 m ρ) c).loose
  hwaits := Pipeline.hwaits_of_owed_zero _ _ _ _ lvls lvl 0 fun _ _ => rfl
  pre c := iprop(StableHlo.held (c : Thread nD τ) (Pipeline.ucRefs τ sig) (W1 m ρ c) ∗ rest c)
  post c := iprop(StableHlo.held (c : Thread nD τ) (Pipeline.ucRefs τ sig) (W2 m ρ c) ∗ rest c)
  X c := iprop(∃ r, prngReg c r)
  Y c := iprop(∃ r, prngReg c r)
  Z c := Pipeline.unscopedRest (Ix := Unit) (Name := ℕ) (U := UR sig nD τ) (Lvl := ℕ) spec0 c (at1 m ρ c)
  hentry c := by
    have split := Pipeline.arrays_of_unscopedBufs (p := 0) (pcfgs (F := F)) tabs (dats m ρ) launch0.win launch0.arr_whole c
      ((dats m ρ 0 c).share_full fun _ => rfl) (at1 m ρ c) (dat0_A (at1 m ρ) c)
    rw [Pipeline.unscopedBufs_held] at split
    rw [Pipeline.ownSems0_none]
    iintro ⟨⟨Hb, Hp, Ho⟩, -, -⟩
    ihave H := split $$ Hb
    icases H with ⟨Ha, Hr⟩
    imodintro
    isplitl [Ha]; · iexact Ha
    isplitr
    · unfold Pipeline.prefHeld
      rw [show (Finset.univ : Finset (Fin 0)) = ∅ from rfl, BI.bigSep_empty]
      iempintro
    isplitl [Ho]
    · iapply (owes_in (dats m ρ 0 c) 0 rfl rfl)
      iexact Ho
    isplitl [Hp]; · iexact Hp
    iexact Hr
  hin c := by
    rw [show (dats m ρ 0 c).Φ 0 = Pipeline.ΦA spec0 c from rfl]
    unfold Pipeline.ΦA
    iintro ⟨Hp, -, Hr⟩
    isplitl [Hr] <;> iassumption
  hout c := by
    rw [Pipeline.ownSems0_none, show (dats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have join := Pipeline.unscopedBufs_of_arrays (p := 0) (pcfgs (F := F)) tabs (Ix := Unit) (Name := ℕ) (U := UR sig nD τ) (Lvl := ℕ)
      launch0.win launch0.arr_whole c (dats m ρ) ((dats m ρ 0 c).share_full fun _ => rfl)
      (at1 m ρ c) (at2 m ρ c) ((dats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at join
    iintro ⟨Ha, Ho, Hp, Hr⟩
    imodintro
    isplitl [Ha Hr]
    · iapply join; isplitl [Ha] <;> iassumption
    isplitl [Hp]; · iexact Hp
    iapply (owes_out (dats m ρ 0 c) (Fin.last _) rfl)
    iexact Ho

set_option backward.isDefEq.respectTransparency.types false in
/-- The second pipeline as a segment: entered with every unscoped buffer at the contents before it, left with them at the contents after it. -/
def seg1 : Pipeline.RegionSeg (pcfgs (F := F)) tabs (dats m ρ) () defs₀ Variants.none lvls lvl 1 where
  win := launch1.win.to₀
  block_pos := launch1.block_pos
  stage_whole := launch1.stage_whole
  K := PEmpty
  osem k := k.elim
  ho := Pipeline.OwnSemFacts.none _
  hbody c := (obligation1 (at2 m ρ) c).loose
  hwaits := Pipeline.hwaits_of_owed_zero _ _ _ _ lvls lvl 1 fun _ _ => rfl
  pre c := iprop(StableHlo.held (c : Thread nD τ) (Pipeline.ucRefs τ sig) (W2 m ρ c) ∗ rest c)
  post c := iprop(StableHlo.held (c : Thread nD τ) (Pipeline.ucRefs τ sig) (W3 m ρ c) ∗ rest c)
  X c := iprop(∃ r, prngReg c r)
  Y c := iprop(∃ r, prngReg c r)
  Z c := Pipeline.unscopedRest (Ix := Unit) (Name := ℕ) (U := UR sig nD τ) (Lvl := ℕ) spec1 c (at2 m ρ c)
  hentry c := by
    have split := Pipeline.arrays_of_unscopedBufs (p := 1) (pcfgs (F := F)) tabs (dats m ρ) launch1.win launch1.arr_whole c
      ((dats m ρ 1 c).share_full fun _ => rfl) (at2 m ρ c) (dat1_A (at2 m ρ) c)
    rw [Pipeline.unscopedBufs_held] at split
    rw [Pipeline.ownSems0_none]
    iintro ⟨⟨Hb, Hp, Ho⟩, -, -⟩
    ihave H := split $$ Hb
    icases H with ⟨Ha, Hr⟩
    imodintro
    isplitl [Ha]; · iexact Ha
    isplitr
    · unfold Pipeline.prefHeld
      rw [show (Finset.univ : Finset (Fin 0)) = ∅ from rfl, BI.bigSep_empty]
      iempintro
    isplitl [Ho]
    · iapply (owes_in (dats m ρ 1 c) 0 rfl rfl)
      iexact Ho
    isplitl [Hp]; · iexact Hp
    iexact Hr
  hin c := by
    rw [show (dats m ρ 1 c).Φ 0 = Pipeline.ΦA spec1 c from rfl]
    unfold Pipeline.ΦA
    iintro ⟨Hp, -, Hr⟩
    isplitl [Hr] <;> iassumption
  hout c := by
    rw [Pipeline.ownSems0_none, show (dats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have join := Pipeline.unscopedBufs_of_arrays (p := 1) (pcfgs (F := F)) tabs (Ix := Unit) (Name := ℕ) (U := UR sig nD τ) (Lvl := ℕ)
      launch1.win launch1.arr_whole c (dats m ρ) ((dats m ρ 1 c).share_full fun _ => rfl)
      (at2 m ρ c) (at3 m ρ c) ((dats m ρ 1 c).arrAt · cfg1.N) (fun w => (W3_arr m ρ c w).symm)
      (fun b hb => W3_of_ne m ρ c b fun w e => hb (Finset.mem_image.mpr ⟨w, Finset.mem_univ _, e⟩))
    rw [Pipeline.unscopedBufs_held] at join
    iintro ⟨Ha, Ho, Hp, Hr⟩
    imodintro
    isplitl [Ha Hr]
    · iapply join; isplitl [Ha] <;> iassumption
    isplitl [Hp]; · iexact Hp
    iapply (owes_out (dats m ρ 1 c) (Fin.last _) rfl)
    iexact Ho

/-- A stretch of host operations as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none lvls lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

theorem fresh_ops0 : (hostOps0 : List (HloOp τ sig (Elt F))).Forall fun op => op.fresh = ∅ := by
  simp only [List.Forall]; repeat' constructor

theorem fresh_ops2 : (hostOps2 : List (HloOp τ sig (Elt F))).Forall fun op => op.fresh = ∅ := by
  simp only [List.Forall]; repeat' constructor

/-- The program's four segments. -/
abbrev segs : List (Pipeline.Seg (pcfgs (F := F)) tabs (dats m ρ) () defs₀ Variants.none lvls lvl) :=
  [.host (hostSeg hostOps0 hostOps0_sub fresh_ops0 (W0 m ρ)), .region (seg0 m ρ), .region (seg1 m ρ),
    .host (hostSeg hostOps2 hostOps2_sub fresh_ops2 (W3 m ρ))]

theorem main_segs (c : Dev nD) : main (F := F) c = Pipeline.Seg.run (segs m ρ) := (main_chain c).trans (by chain_rfl)

theorem all_scoped : ∀ sm : SemLoc sig, sm.isScoped .tc = true := by decide

set_option backward.isDefEq.respectTransparency.types false in
/-- Every fair run of the program from a memory with zero counters ends, with every unscoped buffer at the last boundary's
    contents and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W4 m ρ c b) ∧ r.2.sem = fun _ => 0) :=
  Pipeline.θ_run_regions_kit_sems (pcfgs (F := F)) tabs (dats m ρ) () cellOf_inj emb₁ defs₀ Variants.none lvls lvl m ρ main (segs m ρ)
    (fun c Q => by rw [main_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c))
    (Tₙ := fun c => iprop(StableHlo.held (c : Thread nD τ) (Pipeline.ucRefs τ sig) (W4 m ρ c) ∗ ∃ r, prngReg c r))
    (hch := ⟨fun _ => .rfl, fun _ => .rfl, fun _ => .rfl, fun _ => .rfl, fun c => by
      dsimp only [Pipeline.Seg.post, hostSeg, Pipeline.HostSeg.ofOps]
      iintro ⟨Hh, Hp, Ho⟩
      isplitl [Hh Hp]
      · isplitl [Hh] <;> iassumption
      iexact Ho⟩)
    (hinit := by
      refine Pipeline.initEach lvls lvl fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, Ho, -, Hp, -⟩, -⟩
      imodintro
      isplitl [Hh]; · iexact Hh
      isplitl [Hp]; · iexists _; iexact Hp
      iexists ∅; iexact Ho)
    (QY := fun c s => ∀ b ∈ Pipeline.ucRefs τ sig, s.mem (((c : Thread nD τ)).1, b) = W4 m ρ c b)
    (hfin := fun c s => by
      iintro ⟨⟨Hh, -⟩, Hs⟩
      unfold StableHlo.held
      imodintro
      iapply (pointsTo_read_all (Pipeline.ucRefs τ sig) (fun b => (((c : Thread nD τ)).1, b)) (W4 m ρ c) s)
      isplitl [Hh] <;> iassumption)
    (hQ := fun _ h hz => ⟨h, funext fun g => hz g (.inr (all_scoped g.2))⟩)

theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the run says of one buffer. -/
theorem run_at {s : MemSt nD τ sig (Elt F)} (h : ∀ c : Dev nD, ∀ b ∈ Pipeline.ucRefs τ sig, s.mem ((c : Thread nD τ).1, b) = W4 m ρ c b)
    (c : Dev nD) (b : Ref sig .tc) (hb : ¬ (Proc.devRef .tc b : DevRef τ sig).isScoped) :
    s.mem ((c : Thread nD τ).loc b) = W4 m ρ c (Proc.devRef .tc b) :=
  h c _ (unscoped_mem b hb)

/-- The arguments end as they were. -/
theorem run_arg {s : MemSt nD τ sig (Elt F)} (h : ∀ c : Dev nD, ∀ b ∈ Pipeline.ucRefs τ sig, s.mem ((c : Thread nD τ).1, b) = W4 m ρ c b)
    (c : Dev nD) (a : Ref sig .tc) (ha : a ∈ argList) (hb : ¬ (Proc.devRef .tc a : DevRef τ sig).isScoped) :
    s.mem ((c : Thread nD τ).loc a) = m ((c : Thread nD τ).loc a) :=
  (run_at m ρ h c a hb).trans (W4_arg m ρ c a ha)

end Sindy
-- ==== Proof.Frames.lean ====
module

public import proofs.«01_k».proof.Proof.Run
public import proofs.«01_k».proof.Proof.Gen.Kernel
public import proofs.«01_k».proof.Defs
public import Idealize.ShloMosaic.Lib.Pipeline.Regions

/-! The frames of the two copies of the kernel. The two programs have one text, so a run of the one is a run of the other, and what
`Run.lean` proves of `KernelIdeal` at any float operations holds of `Kernel`. -/

@[expose] public section

set_option maxRecDepth 16384

noncomputable section

namespace Sindy

open Idealize.ShloMosaic Idealize.ShloMosaic.TcCoe Idealize.ShloMosaic.Tactic
open Idealize.SL.Sem

variable {F : FTy → Type} [FloatOps F]

/-- A statement about the final memory, buffer by buffer, and the final counters holds of `Kernel` exactly when it holds of `KernelIdeal`. -/
theorem run_same
    (m : (ℓ : Loc Cert.Kernel.nD Cert.Kernel.τ Cert.Kernel.sig) → Buf (Elt F) ℓ)
    (m' : (ℓ : Loc Cert.KernelIdeal.nD Cert.KernelIdeal.τ Cert.KernelIdeal.sig) → Buf (Elt F) ℓ) (h : m = m') (g : Dev Cert.Kernel.nD → PrngReg)
    (Q : (ℓ : Loc Cert.Kernel.nD Cert.Kernel.τ Cert.Kernel.sig) → Buf (Elt F) ℓ → Prop) :
    (θ_run (Cert.Kernel.defs (F := F)) (onTc (τ := Cert.Kernel.τ) (Cert.Kernel.main (F := F))) ⟨m, fun _ => 0, g⟩
      (fun r => (∀ ℓ, Q ℓ (r.2.mem ℓ)) ∧ r.2.sem = fun _ => 0))
    = (θ_run (Cert.KernelIdeal.defs (F := F)) (onTc (τ := Cert.KernelIdeal.τ) (Cert.KernelIdeal.main (F := F))) ⟨m', fun _ => 0, g⟩
      (fun r => (∀ ℓ, Q ℓ (r.2.mem ℓ)) ∧ r.2.sem = fun _ => 0)) := by
  subst h; chain_rfl

/-- `KernelIdeal` at any float operations: every fair run ends with the arguments unchanged and the counters at zero. -/
theorem frame_ideal (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD, ∀ a ∈ argList,
        r.2.mem ((c : Thread Cert.KernelIdeal.nD Cert.KernelIdeal.τ).loc a) = m ((c : Thread Cert.KernelIdeal.nD Cert.KernelIdeal.τ).loc a))
        ∧ r.2.sem = fun _ => 0) :=
  (θ_run _ _ _).mono (fun _ h => ⟨fun c a ha => run_arg m g h.1 c a ha
    ((ListAll.forall_mem_of_all_decide (p := fun a => ¬ (Proc.devRef .tc a : DevRef Cert.KernelIdeal.τ Cert.KernelIdeal.sig).isScoped)
      (l := argList) (by decide +kernel)) a ha), h.2⟩) (run m g)

/-- `Kernel` likewise. -/
theorem frame_kernel (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩
      (fun r => (∀ ℓ, (∃ c : Dev Cert.Kernel.nD, ∃ a ∈ argList, ℓ = (c : Thread Cert.KernelIdeal.nD Cert.KernelIdeal.τ).loc a) →
        r.2.mem ℓ = m ℓ) ∧ r.2.sem = fun _ => 0) := by
  refine (run_same m m rfl g (fun ℓ v =>
    (∃ c : Dev Cert.Kernel.nD, ∃ a ∈ argList, ℓ = (c : Thread Cert.KernelIdeal.nD Cert.KernelIdeal.τ).loc a) → v = m ℓ)).mpr ?_
  refine (θ_run _ _ _).mono (fun r h => ⟨?_, h.2⟩) (frame_ideal m g)
  rintro ℓ ⟨c, a, ha, rfl⟩
  exact h.1 c a ha

/-- The frame of `Kernel` on the machine's floats. -/
theorem quiescent_kernel : Cert.quiescent_Kernel := fun m g _ =>
  (θ_run _ _ _).mono (fun _ h => ⟨fun c => by
    repeat' apply And.intro
    all_goals exact h.1 _ ⟨c, _, by decide, rfl⟩, h.2⟩) (frame_kernel m g)

/-- The frame of `KernelIdeal` on extended reals. -/
theorem quiescent_kernelIdeal : Cert.quiescent_KernelIdeal := fun m g _ =>
  (θ_run _ _ _).mono (fun _ h => ⟨fun c => by
    repeat' apply And.intro
    all_goals exact h.1 c _ (by decide), h.2⟩) (frame_ideal m g)

end Sindy
-- ==== Proof.Math.lean ====
module

public import Idealize.ShloMosaic.PureOps.Ideal.Laws
public import Idealize.ShloMosaic.Lib.IdealHost
public import Idealize.ShloMosaic.Lib.Pointwise

/-! The mathematics of the claim, over the extended reals: the logistic function and its slope as the two programs write them, and the
Jacobian of a three-layer network averaged over its inputs, summed in two orders. -/

@[expose] public section

noncomputable section

namespace Sindy

open Idealize.ShloMosaic

/-! ## Constants -/

theorem ofBits_half : Ideal.ofBits .f32 0x3F000000#32 = ((1 / 2 : ℝ) : EReal) := by
  simp [Ideal.ofBits, Ideal.ieee]; norm_num [← EReal.coe_mul]

theorem ofBits_quarter : Ideal.ofBits .f32 0x3E800000#32 = ((1 / 4 : ℝ) : EReal) := by
  simp [Ideal.ofBits, Ideal.ieee]; norm_num [← EReal.coe_mul]

theorem ofBits_count : Ideal.ofBits .f32 0x47800000#32 = ((65536 : ℝ) : EReal) := by
  simp [Ideal.ofBits, Ideal.ieee]; norm_num [← EReal.coe_mul]

theorem ofBits_inv_count : Ideal.ofBits .f32 0x37800000#32 = ((1 / 65536 : ℝ) : EReal) := by
  simp [Ideal.ofBits, Ideal.ieee]; norm_num [← EReal.coe_mul]

/-! ## The logistic function -/

/-- The logistic function, as the reference writes it. -/
def sigm (t : EReal) : EReal := Ideal.div 1 (1 + Ideal.exp (-t))

/-- Its derivative, from its value. -/
def slope (t : EReal) : EReal := sigm t * (1 - sigm t)

theorem sigm_bot : sigm ⊥ = 0 := by
  have h : (1 : EReal) + ⊤ = ⊤ := EReal.add_top_of_ne_bot (by rw [← EReal.coe_one]; exact EReal.coe_ne_bot 1)
  simp [sigm, Ideal.div, h]

theorem sigm_top : sigm ⊤ = 1 := by
  simp [sigm, Ideal.div]

theorem sigm_coe (r : ℝ) : sigm r = ((1 / (1 + Real.exp (-r)) : ℝ) : EReal) := by
  have h : (0 : ℝ) < 1 + Real.exp (-r) := by positivity
  unfold sigm
  rw [← EReal.coe_neg, Ideal.exp_coe, ← EReal.coe_one, ← EReal.coe_add, Ideal.div_coe h.ne', ← EReal.coe_mul, one_mul]

theorem tanh_half (r : ℝ) : 1 / 2 * Real.tanh (r * (1 / 2)) + 1 / 2 = 1 / (1 + Real.exp (-r)) := by
  have hE : Real.exp (-r) = Real.exp (-(r * (1 / 2))) * Real.exp (-(r * (1 / 2))) := by rw [← Real.exp_add]; congr 1; ring
  have h1 : Real.exp (r * (1 / 2)) * Real.exp (-(r * (1 / 2))) = 1 := by rw [← Real.exp_add]; simp
  rw [Real.tanh_eq_sinh_div_cosh, Real.sinh_eq, Real.cosh_eq, hE]
  have hp : 0 < Real.exp (r * (1 / 2)) := Real.exp_pos _
  have hq : 0 < Real.exp (-(r * (1 / 2))) := Real.exp_pos _
  generalize Real.exp (r * (1 / 2)) = p at *
  generalize Real.exp (-(r * (1 / 2))) = q at *
  have : p = 1 / q := by field_simp; linarith
  subst this
  field_simp
  ring

/-- The kernel's form of the logistic function. -/
theorem sigm_eq_tanh (t : EReal) :
    Ideal.ofBits .f32 0x3F000000#32 * Ideal.tanh (t * Ideal.ofBits .f32 0x3F000000#32) + Ideal.ofBits .f32 0x3F000000#32 = sigm t := by
  rw [ofBits_half]
  have hh : (0 : ℝ) < 1 / 2 := by norm_num
  induction t with
  | bot =>
    rw [EReal.bot_mul_coe_of_pos hh, Ideal.tanh_bot, sigm_bot, mul_neg, mul_one]
    norm_cast; norm_num
  | top =>
    rw [EReal.top_mul_coe_of_pos hh, Ideal.tanh_top, sigm_top, mul_one]
    norm_cast; norm_num
  | coe r =>
    rw [← EReal.coe_mul, Ideal.tanh_coe, sigm_coe, ← tanh_half]
    norm_cast

/-- The kernel's form of the slope. -/
theorem slope_eq_tanh (t : EReal) :
    Ideal.ofBits .f32 0x3E800000#32
      - Ideal.ofBits .f32 0x3E800000#32 * (Ideal.tanh (t * Ideal.ofBits .f32 0x3F000000#32) * Ideal.tanh (t * Ideal.ofBits .f32 0x3F000000#32))
      = slope t := by
  unfold slope
  rw [ofBits_half, ofBits_quarter]
  have hh : (0 : ℝ) < 1 / 2 := by norm_num
  induction t with
  | bot =>
    rw [EReal.bot_mul_coe_of_pos hh, Ideal.tanh_bot, sigm_bot, zero_mul, neg_mul_neg, mul_one, mul_one]
    norm_cast; norm_num
  | top =>
    rw [EReal.top_mul_coe_of_pos hh, Ideal.tanh_top, sigm_top, mul_one, mul_one, one_mul, ← EReal.coe_one, ← EReal.coe_sub, ← EReal.coe_sub]
    norm_num
  | coe r =>
    rw [← EReal.coe_mul, Ideal.tanh_coe, sigm_coe, ← tanh_half]
    norm_cast; ring

theorem sigm_pos_or (t : EReal) : t = ⊥ ∨ ∃ r : ℝ, 0 < r ∧ sigm t = r := by
  induction t with
  | bot => exact .inl rfl
  | top => exact .inr ⟨1, one_pos, sigm_top⟩
  | coe r => exact .inr ⟨_, by positivity, sigm_coe r⟩

theorem slope_bot : slope ⊥ = 0 := by rw [slope, sigm_bot, zero_mul]
theorem slope_top : slope ⊤ = 0 := by
  rw [slope, sigm_top, one_mul, ← EReal.coe_one, ← EReal.coe_sub, sub_self, EReal.coe_zero]

theorem slope_real (t : EReal) : ∃ r : ℝ, slope t = r := by
  induction t with
  | bot => exact ⟨0, slope_bot⟩
  | top => exact ⟨0, slope_top⟩
  | coe r => exact ⟨_, by rw [slope, sigm_coe, ← EReal.coe_one, ← EReal.coe_sub, ← EReal.coe_mul]⟩

/-- A finite sum of reals, taken among the extended reals. -/
theorem coe_sum {ι : Type} (t : Finset ι) (f : ι → ℝ) : ((∑ i ∈ t, f i : ℝ) : EReal) = ∑ i ∈ t, (f i : EReal) :=
  map_sum (⟨⟨Real.toEReal, EReal.coe_zero⟩, EReal.coe_add⟩ : ℝ →+ EReal) f t

/-! ## A three-layer network -/

/-- One affine layer. -/
def aff {p q : ℕ} (h : Fin p → EReal) (W : Fin p → Fin q → EReal) (b : Fin q → EReal) (j : Fin q) : EReal := (∑ k, h k * W k j) + b j

/-- A network of two hidden layers. -/
@[ext] structure Net (p q r s : ℕ) where
  /-- the weights and biases of the first layer -/
  W0 : Fin p → Fin q → EReal
  b0 : Fin q → EReal
  /-- of the second -/
  W1 : Fin q → Fin r → EReal
  b1 : Fin r → EReal
  /-- of the third -/
  W2 : Fin r → Fin s → EReal
  b2 : Fin s → EReal

namespace Net

variable {p q r s N : ℕ} (M : Net p q r s)

/-- What enters the first and the second hidden layer, -/
def pre0 (x : Fin p → EReal) : Fin q → EReal := aff x M.W0 M.b0
@[inherit_doc pre0] def pre1 (x : Fin p → EReal) : Fin r → EReal := aff (fun a => sigm (M.pre0 x a)) M.W1 M.b1
/-- and what the network computes. -/
def out (x : Fin p → EReal) : Fin s → EReal := aff (fun b => sigm (M.pre1 x b)) M.W2 M.b2

/-- The Jacobian of the network's output `l` in its input `i`, summed over the inputs `x n` and divided by a count, the chain rule being
    applied at each input. -/
def jacRef (d : EReal) (x : Fin N → Fin p → EReal) (l : Fin s) (i : Fin p) : EReal :=
  Ideal.div (∑ n, ∑ a, (∑ b, (M.W2 b l * slope (M.pre1 (x n) b)) * M.W1 a b) * slope (M.pre0 (x n) a) * M.W0 i a) d

/-- The same with the slopes' products summed over the inputs first. -/
def jacKer (d : EReal) (x : Fin N → Fin p → EReal) (l : Fin s) (i : Fin p) : EReal :=
  ∑ a, M.W0 i a * ∑ b, (M.W1 a b * ((∑ n, slope (M.pre0 (x n) a) * slope (M.pre1 (x n) b)) * d)) * M.W2 b l

end Net

theorem add_infinite {x : EReal} (hx : x = ⊤ ∨ x = ⊥) (y : EReal) : x + y = ⊤ ∨ x + y = ⊥ := by
  rcases hx with rfl | rfl
  · induction y with
    | bot => right; simp
    | top => left; simp
    | coe r => left; simp
  · right; simp

theorem sum_infinite {ι : Type} (t : Finset ι) (f : ι → EReal) (k : ι) (hk : k ∈ t) (h : f k = ⊤ ∨ f k = ⊥) :
    (∑ i ∈ t, f i) = ⊤ ∨ (∑ i ∈ t, f i) = ⊥ := by
  classical
  rw [← Finset.add_sum_erase t f hk]
  exact add_infinite h _

/-- An infinite middle weight meets a zero slope on one side or the other. -/
theorem Net.slope_zero {p q r s : ℕ} (M : Net p q r s) (x : Fin p → EReal) (a : Fin q) (b : Fin r) (h : M.W1 a b = ⊤ ∨ M.W1 a b = ⊥) :
    slope (M.pre0 x a) = 0 ∨ slope (M.pre1 x b) = 0 := by
  rcases sigm_pos_or (M.pre0 x a) with h0 | ⟨u, hu, h0⟩
  · left; rw [h0, slope_bot]
  right
  have hterm : sigm (M.pre0 x a) * M.W1 a b = ⊤ ∨ sigm (M.pre0 x a) * M.W1 a b = ⊥ := by
    rw [h0]
    rcases h with h | h <;> rw [h]
    · left; exact EReal.coe_mul_top_of_pos hu
    · right; exact EReal.coe_mul_bot_of_pos hu
  have hp : M.pre1 x b = ⊤ ∨ M.pre1 x b = ⊥ :=
    add_infinite (sum_infinite Finset.univ (fun a => sigm (M.pre0 x a) * M.W1 a b) a (Finset.mem_univ a) hterm) _
  rcases hp with hp | hp <;> rw [hp]
  · exact slope_top
  · exact slope_bot

/-- The two orders agree when the outer weights are finite. -/
theorem Net.jac_eq {p q r s N : ℕ} (M : Net p q r s) (x : Fin N → Fin p → EReal) (d : ℝ) (hd : d ≠ 0)
    (h0 : ∀ i a, ∃ w : ℝ, M.W0 i a = w) (h2 : ∀ b l, ∃ w : ℝ, M.W2 b l = w) (l : Fin s) (i : Fin p) :
    M.jacRef (d : EReal) x l i = M.jacKer ((1 / d : ℝ) : EReal) x l i := by
  choose w0 h0 using h0
  choose w2 h2 using h2
  choose g0 hg0 using fun n a => slope_real (M.pre0 (x n) a)
  choose g1 hg1 using fun n b => slope_real (M.pre1 (x n) b)
  -- the middle weights with their infinite entries at zero
  have hV : ∀ a b, ∃ v : ℝ, ∀ n, (g0 n a = 0 ∨ ((g1 n b : ℝ) : EReal) * M.W1 a b = (g1 n b : ℝ) * (v : ℝ)) ∧ (M.W1 a b = v ∨ g0 n a * g1 n b = 0) := by
    intro a b
    have hs : (M.W1 a b = ⊤ ∨ M.W1 a b = ⊥) ∨ ∃ v : ℝ, M.W1 a b = v := by
      induction M.W1 a b with
      | bot => exact .inl (.inr rfl)
      | top => exact .inl (.inl rfl)
      | coe v => exact .inr ⟨v, rfl⟩
    rcases hs with hs | ⟨v, hv⟩
    · refine ⟨0, fun n => ?_⟩
      rcases M.slope_zero (x n) a b hs with hz | hz
      · rw [hg0] at hz
        have hz : g0 n a = 0 := by exact_mod_cast hz
        exact ⟨.inl hz, .inr (by rw [hz, zero_mul])⟩
      · rw [hg1] at hz
        have hz : g1 n b = 0 := by exact_mod_cast hz
        exact ⟨.inr (by rw [hz]; simp), .inr (by rw [hz, mul_zero])⟩
    · exact ⟨v, fun n => ⟨.inr (by rw [hv]), .inl hv⟩⟩
  choose v hv using hV
  have hL : M.jacRef (d : EReal) x l i = (((∑ n, ∑ a, (∑ b, w2 b l * g1 n b * v a b) * g0 n a * w0 i a) * (1 / d) : ℝ) : EReal) := by
    unfold Net.jacRef
    rw [Ideal.div_coe hd, EReal.coe_mul, coe_sum]
    congr 1
    refine Finset.sum_congr rfl fun n _ => ?_
    rw [coe_sum]
    refine Finset.sum_congr rfl fun a _ => ?_
    rw [hg0, h0, EReal.coe_mul, EReal.coe_mul]
    by_cases hz : g0 n a = 0
    · rw [hz]; simp
    congr 2
    rw [coe_sum]
    refine Finset.sum_congr rfl fun b _ => ?_
    rw [hg1, h2, mul_assoc, ((hv a b n).1.resolve_left hz)]
    norm_cast; ring
  have hR : M.jacKer ((1 / d : ℝ) : EReal) x l i = ((∑ a, w0 i a * ∑ b, (v a b * ((∑ n, g0 n a * g1 n b) * (1 / d))) * w2 b l : ℝ) : EReal) := by
    unfold Net.jacKer
    rw [coe_sum]
    refine Finset.sum_congr rfl fun a _ => ?_
    rw [h0, EReal.coe_mul, coe_sum]
    congr 1
    refine Finset.sum_congr rfl fun b _ => ?_
    have hG : (∑ n, slope (M.pre0 (x n) a) * slope (M.pre1 (x n) b)) = ((∑ n, g0 n a * g1 n b : ℝ) : EReal) := by
      rw [coe_sum]
      exact Finset.sum_congr rfl fun n _ => by rw [hg0, hg1, EReal.coe_mul]
    rw [h2, hG, ← EReal.coe_mul, EReal.coe_mul (v a b * _)]
    congr 1
    by_cases hw : M.W1 a b = v a b
    · rw [hw]; simp only [EReal.coe_mul]
    · have : (∑ n, g0 n a * g1 n b) = 0 := Finset.sum_eq_zero fun n _ => (hv a b n).2.resolve_left hw
      rw [this]; simp
  rw [hL, hR]
  congr 1
  simp only [Finset.sum_mul, Finset.mul_sum]
  rw [Finset.sum_comm]
  refine Finset.sum_congr rfl fun a _ => ?_
  rw [Finset.sum_comm]
  refine Finset.sum_congr rfl fun b _ => Finset.sum_congr rfl fun n _ => ?_
  ring

/-- A middle weight times the sum of its slopes' products is a real number, whatever the weight is. -/
theorem Net.coeff_real {p q r s N : ℕ} (M : Net p q r s) (x : Fin N → Fin p → EReal) (d : ℝ) (a : Fin q) (b : Fin r) :
    ∃ c : ℝ, M.W1 a b * ((∑ n, slope (M.pre0 (x n) a) * slope (M.pre1 (x n) b)) * (d : EReal)) = c := by
  have hs : (M.W1 a b = ⊤ ∨ M.W1 a b = ⊥) ∨ ∃ v : ℝ, M.W1 a b = v := by
    induction M.W1 a b with
    | bot => exact .inl (.inr rfl)
    | top => exact .inl (.inl rfl)
    | coe v => exact .inr ⟨v, rfl⟩
  rcases hs with hs | ⟨v, hv⟩
  · refine ⟨0, ?_⟩
    rw [Finset.sum_eq_zero fun n _ => (M.slope_zero (x n) a b hs).elim (fun h => by rw [h, zero_mul]) (fun h => by rw [h, mul_zero]),
      zero_mul, mul_zero, EReal.coe_zero]
  · choose g0 hg0 using fun n => slope_real (M.pre0 (x n) a)
    choose g1 hg1 using fun n => slope_real (M.pre1 (x n) b)
    refine ⟨v * ((∑ n, g0 n * g1 n) * d), ?_⟩
    rw [hv, EReal.coe_mul, EReal.coe_mul, coe_sum]
    exact congrArg (fun t => (v : EReal) * (t * d)) (Finset.sum_congr rfl fun n _ => by rw [hg0, hg1, EReal.coe_mul])

/-- The product of the three matrices may be taken from the left when the outer weights are finite. -/
theorem Net.jac_assoc {p q r s N : ℕ} (M : Net p q r s) (x : Fin N → Fin p → EReal) (d : ℝ)
    (h0 : ∀ i a, ∃ w : ℝ, M.W0 i a = w) (h2 : ∀ b l, ∃ w : ℝ, M.W2 b l = w) (l : Fin s) (i : Fin p) :
    (∑ b, (∑ a, M.W0 i a * (M.W1 a b * ((∑ n, slope (M.pre0 (x n) a) * slope (M.pre1 (x n) b)) * (d : EReal)))) * M.W2 b l)
      = M.jacKer (d : EReal) x l i := by
  unfold Net.jacKer
  choose w0 h0 using h0
  choose w2 h2 using h2
  choose c hc using fun a b => M.coeff_real x d a b
  simp only [h0, h2, hc, ← EReal.coe_mul, ← coe_sum]
  congr 1
  simp only [Finset.sum_mul, Finset.mul_sum]
  rw [Finset.sum_comm]
  exact Finset.sum_congr rfl fun a _ => Finset.sum_congr rfl fun b _ => by ring

/-! ## The problem -/

/-- The library of the 22 monomials of three coordinates, in the reference's order. -/
def theta (u : Fin 3 → EReal) : Fin 22 → EReal :=
  ![1, 1, 1, u 0, u 1, u 2, u 0 * u 0, u 0 * u 1, u 0 * u 2, u 1 * u 1, u 1 * u 2, u 2 * u 2,
    u 0 * u 0 * u 0, u 0 * u 0 * u 1, u 0 * u 0 * u 2, u 0 * u 1 * u 1, u 0 * u 1 * u 2, u 0 * u 2 * u 2,
    u 1 * u 1 * u 1, u 1 * u 1 * u 2, u 1 * u 2 * u 2, u 2 * u 2 * u 2]

/-- What the five results are computed from. -/
structure Data where
  /-- the encoder and the decoder -/
  enc : Net 512 256 128 3
  dec : Net 3 128 256 512
  /-- the samples and their derivatives in time -/
  x : Fin 65536 → Fin 512 → EReal
  dx : Fin 65536 → Fin 512 → EReal
  /-- the coefficients of the library and the bias -/
  Ew : Fin 22 → Fin 3 → EReal
  Eb : Fin 3 → EReal

namespace Data

variable (D : Data)

/-- The encoded samples, -/
def z (n : Fin 65536) : Fin 3 → EReal := D.enc.out (D.x n)
/-- their decoding, -/
def xb (n : Fin 65536) : Fin 512 → EReal := D.dec.out (D.z n)
/-- the library's prediction of their derivatives, -/
def dzb (n : Fin 65536) : Fin 3 → EReal := aff (theta (D.z n)) D.Ew D.Eb
/-- their derivatives through the encoder's mean Jacobian, -/
def dz (n : Fin 65536) (l : Fin 3) : EReal := ∑ i, D.dx n i * D.enc.jacRef ((65536 : ℝ) : EReal) D.x l i
/-- and the prediction through the decoder's. -/
def dxb (n : Fin 65536) (i : Fin 512) : EReal := ∑ l, D.dzb n l * D.dec.jacRef ((65536 : ℝ) : EReal) D.z i l

end Data

/-- A network read from arrays. -/
def Net.of {p q r s : ℕ} (w0 : (⟨2, ![p, q]⟩ : Shape).Idx → EReal) (b0 : (⟨1, ![q]⟩ : Shape).Idx → EReal)
    (w1 : (⟨2, ![q, r]⟩ : Shape).Idx → EReal) (b1 : (⟨1, ![r]⟩ : Shape).Idx → EReal)
    (w2 : (⟨2, ![r, s]⟩ : Shape).Idx → EReal) (b2 : (⟨1, ![s]⟩ : Shape).Idx → EReal) : Net p q r s where
  W0 i j := w0 (ix2 i j)
  b0 j := b0 (ix1 j)
  W1 i j := w1 (ix2 i j)
  b1 j := b1 (ix1 j)
  W2 i j := w2 (ix2 i j)
  b2 j := b2 (ix1 j)

/-- The problem read from arrays. -/
def Data.of (x dx : (⟨2, ![65536, 512]⟩ : Shape).Idx → EReal) (enc : Net 512 256 128 3) (dec : Net 3 128 256 512)
    (Ew : (⟨2, ![22, 3]⟩ : Shape).Idx → EReal) (Eb : (⟨1, ![3]⟩ : Shape).Idx → EReal) : Data where
  enc := enc
  dec := dec
  x n i := x (ix2 n i)
  dx n i := dx (ix2 n i)
  Ew k j := Ew (ix2 k j)
  Eb j := Eb (ix1 j)

end Sindy
-- ==== Proof.BodyValue.lean ====
module

public import proofs.«01_k».proof.Proof.Math
public import proofs.«01_k».proof.Proof.Region0
public import Idealize.ShloMosaic.Lib.Pointwise
public import Idealize.ShloMosaic.Lib.Tactic.CleanTypes

/-! What the bodies' values are at an index, over the extended reals. -/

@[expose] public section

set_option maxRecDepth 16384

noncomputable section

namespace Sindy

open Cert.KernelIdeal Cert.KernelIdeal.Gen
open Idealize.ShloMosaic Idealize.ShloMosaic.TcCoe

/-- What a selector matrix and a selector column make of `u`: for the library's, one coordinate or one. -/
def selected (S : S3x3x22.Idx → EReal) (s : S3x22x1.Idx → EReal) (i : Fin 3) (u : Fin 3 → EReal) (k : Fin 22) : EReal :=
  (∑ a, S (ix3 i a k) * u a) + s (ix3 i k 0)

namespace In0

variable (X : In0 Ideal)

/-- The encoder in the point's buffers, -/
def encN : Net 512 256 128 3 where
  W0 i j := X.x1 (ix2 i j)
  b0 j := X.x2 (ix1 j)
  W1 i j := X.x3 (ix2 i j)
  b1 j := X.x4 (ix1 j)
  W2 i j := X.x5 (ix2 i j)
  b2 j := X.x6 (ix2 j 0)
/-- the decoder, -/
def decN : Net 3 128 256 512 where
  W0 i j := X.x7 (ix2 i j)
  b0 j := X.x8 (ix1 j)
  W1 i j := X.x9 (ix2 i j)
  b1 j := X.x10 (ix1 j)
  W2 i j := X.x11 (ix2 i j)
  b2 j := X.x12 (ix1 j)
/-- and a row of the samples. -/
def row (n : Fin 4096) (i : Fin 512) : EReal := X.x0 (ix2 n i)

/-- The codes. -/
theorem z_eq (n : Fin 4096) (j : Fin 3) : (X.z (ix2 j n) : EReal) = X.encN.out (X.row n) j := by
  unfold z enc2
  pointwise [k0_pay7, k0_pay5, k0_pay4, k0_pay2]
  simp only [sigm_eq_tanh]
  exact congrArg (· + _) (Finset.sum_congr rfl fun b _ => mul_comm _ _)

/-- The slopes of the encoder's first layer, -/
theorem encG_eq (n : Fin 4096) (a : Fin 256) : (X.encG (ix2 n a) : EReal) = slope (X.encN.pre0 (X.row n) a) := by
  unfold encG
  pointwise [k0_pay3, k0_pay2]
  simp only [slope_eq_tanh]
  rfl

/-- the hidden values of the decoder's, -/
theorem dec1_eq (n : Fin 4096) (a : Fin 128) : (X.dec1 (ix2 n a) : EReal) = sigm (X.decN.pre0 (X.encN.out (X.row n)) a) := by
  unfold dec1
  pointwise [k0_pay15, k0_pay14]
  simp only [sigm_eq_tanh, z_eq]
  rfl

/-- and the reconstructed rows. -/
theorem xb_eq (n : Fin 4096) (j : Fin 512) : (X.xb (ix2 n j) : EReal) = X.decN.out (X.encN.out (X.row n)) j := by
  unfold xb
  pointwise [k0_pay18, k0_pay17]
  simp only [sigm_eq_tanh, dec1_eq]
  rfl

/-- A factor of each term of the library, from the point's selectors. -/
def factor : Fin 3 → (Fin 3 → EReal) → Fin 22 → EReal := selected X.x15 X.x16

theorem sel_eq (a : Fin 3) (k : Fin 22) :
    (selM0 X.x15 (ix3 0 a k) = X.x15 (ix3 0 a k) ∧ selM1 X.x15 (ix3 0 a k) = X.x15 (ix3 1 a k) ∧ selM2 X.x15 (ix3 0 a k) = X.x15 (ix3 2 a k))
      ∧ selC0 X.x16 (ix3 0 k 0) = X.x16 (ix3 0 k 0) ∧ selC1 X.x16 (ix3 0 k 0) = X.x16 (ix3 1 k 0) ∧ selC2 X.x16 (ix3 0 k 0) = X.x16 (ix3 2 k 0) := by
  refine ⟨⟨congrArg X.x15 (funext fun d => Fin.ext ?_), congrArg X.x15 (funext fun d => Fin.ext ?_), congrArg X.x15 (funext fun d => Fin.ext ?_)⟩,
    congrArg X.x16 (funext fun d => Fin.ext ?_), congrArg X.x16 (funext fun d => Fin.ext ?_), congrArg X.x16 (funext fun d => Fin.ext ?_)⟩ <;>
    fin_cases d <;> simp [Rect.toLoadRect, Rect.unit, LoadRect.idx]

/-- The predicted derivatives of the codes. -/
theorem dzb_eq (n : Fin 4096) (j : Fin 3) :
    (X.dzb (ix2 j n) : EReal)
      = (∑ k, X.x13 (ix2 k j) * (X.factor 0 (X.encN.out (X.row n)) k * X.factor 1 (X.encN.out (X.row n)) k * X.factor 2 (X.encN.out (X.row n)) k))
        + X.x14 (ix2 j 0) := by
  have hz : ∀ a, (k0_pay7 X.enc2 X.x5 X.x6 (ix2 a n) : EReal) = X.encN.out (X.row n) a := X.z_eq n
  unfold dzb
  pointwise [k0_pay13, k0_pay11, k0_pay12]
  simp only [hz, z_eq, (X.sel_eq _ _).1.1, (X.sel_eq _ _).1.2.1, (X.sel_eq _ _).1.2.2, (X.sel_eq 0 _).2.1, (X.sel_eq 0 _).2.2.1, (X.sel_eq 0 _).2.2.2]
  rfl

/-- What a point adds to the encoder's accumulator, -/
def geTerm (a : Fin 256) (b : Fin 128) : EReal := ∑ n, slope (X.encN.pre0 (X.row n) a) * slope (X.encN.pre1 (X.row n) b)
/-- and to the decoder's. -/
def gdTerm (a : Fin 128) (b : Fin 256) : EReal :=
  ∑ n, slope (X.decN.pre0 (X.encN.out (X.row n)) a) * slope (X.decN.pre1 (X.encN.out (X.row n)) b)

theorem pay8_eq (a : Fin 256) (b : Fin 128) : (k0_pay8 X.encG X.encT quarter (ix2 a b) : EReal) = X.geTerm a b := by
  unfold encT quarter
  pointwise [k0_pay8, k0_pay6, k0_pay4, k0_pay2]
  simp only [sigm_eq_tanh, slope_eq_tanh, encG_eq]
  rfl

theorem pay19_eq (a : Fin 128) (b : Fin 256) : (k0_pay19 X.dec1 X.decT quarter X.x9 X.x10 (ix2 a b) : EReal) = X.gdTerm a b := by
  unfold decT quarter
  pointwise [k0_pay19, k0_pay17, k0_pay16, k0_pay14]
  simp only [slope_eq_tanh, dec1_eq, z_eq]
  rfl

theorem geFirst_eq (a : Fin 256) (b : Fin 128) : (X.geFirst (ix3 0 a b) : EReal) = X.geTerm a b := by
  unfold geFirst
  pointwise [k0_pay9]
  exact X.pay8_eq a b

theorem geNext_eq (p) (a : Fin 256) (b : Fin 128) : (X.geNext p (ix3 0 a b) : EReal) = p (ix3 0 a b) + X.geTerm a b := by
  unfold geNext
  pointwise [k0_pay10]
  exact congrArg _ (X.pay8_eq a b)

theorem gdFirst_eq (a : Fin 128) (b : Fin 256) : (X.gdFirst (ix3 0 a b) : EReal) = X.gdTerm a b := by
  unfold gdFirst
  pointwise [k0_pay20]
  exact X.pay19_eq a b

theorem gdNext_eq (p) (a : Fin 128) (b : Fin 256) : (X.gdNext p (ix3 0 a b) : EReal) = p (ix3 0 a b) + X.gdTerm a b := by
  unfold gdNext
  pointwise [k0_pay1]
  exact congrArg _ (X.pay19_eq a b)

end In0

/-! ## The streaming stage -/

/-- The encoder's Jacobian as the second stage forms it, -/
theorem jet_eq (g : Vec Ideal S1x256x128 .f32) (w0 : Vec Ideal S512x256 .f32) (w1 : Vec Ideal S256x128 .f32) (w2 : Vec Ideal S128x3 .f32)
    (i : Fin 512) (l : Fin 3) :
    (k1_pay1 g w0 w1 w2 (ix2 i l) : EReal)
      = ∑ a, w0 (ix2 i a) * ∑ b, (w1 (ix2 a b) * (g (ix3 0 a b) * ((1 / 65536 : ℝ) : EReal))) * w2 (ix2 b l) := by
  pointwise [k1_pay1]
  simp only [ofBits_inv_count, Fin.sum_univ_one, Fin.isValue]

/-- the decoder's, -/
theorem jdt_eq (g : Vec Ideal S1x128x256 .f32) (w0 : Vec Ideal S3x128 .f32) (w1 : Vec Ideal S128x256 .f32) (w2 : Vec Ideal S256x512 .f32)
    (l : Fin 3) (i : Fin 512) :
    (k1_pay2 g w0 w1 w2 (ix2 l i) : EReal)
      = ∑ b, (∑ a, w0 (ix2 l a) * (w1 (ix2 a b) * (g (ix3 0 a b) * ((1 / 65536 : ℝ) : EReal)))) * w2 (ix2 b i) := by
  pointwise [k1_pay2]
  simp only [ofBits_inv_count, Fin.sum_univ_one, Fin.isValue]

/-- and the two streams through them. -/
theorem dz_eq (j : Vec Ideal S512x3 .f32) (dx : Vec Ideal S4096x512 .f32) (l : Fin 3) (n : Fin 4096) :
    (k1_pay3 j dx (ix2 l n) : EReal) = ∑ i, dx (ix2 n i) * j (ix2 i l) := by
  pointwise [k1_pay3]
  exact Finset.sum_congr rfl fun i _ => mul_comm _ _

@[inherit_doc dz_eq]
theorem dxb_eq (dzb : Vec Ideal S3x4096 .f32) (j : Vec Ideal S3x512 .f32) (n : Fin 4096) (i : Fin 512) :
    (k1_pay4 dzb j (ix2 n i) : EReal) = ∑ l, dzb (ix2 l n) * j (ix2 l i) := by
  pointwise [k1_pay4]

end Sindy
-- ==== Proof.Arrays.lean ====
module

public import proofs.«01_k».proof.Proof.BodyValue
public import proofs.«01_k».proof.Proof.Run
public import Idealize.ShloMosaic.Lib.Pipeline.ValueKit

/-! What the arrays hold after each pipeline, over the extended reals. -/

@[expose] public section

set_option maxRecDepth 16384

noncomputable section

namespace Sindy

open Cert.KernelIdeal Cert.KernelIdeal.Gen
open Idealize.ShloMosaic Idealize.ShloMosaic.TcCoe

/-- Where the blocks of the first pipeline lie. -/
theorem index0 : ∀ t : Fin cfg0.N,
    (cfg0.win 0).index t = ![t.val, 0] ∧ (cfg0.win 1).index t = ![0, 0] ∧ (cfg0.win 2).index t = ![0] ∧ (cfg0.win 3).index t = ![0, 0]
    ∧ (cfg0.win 4).index t = ![0] ∧ (cfg0.win 5).index t = ![0, 0] ∧ (cfg0.win 6).index t = ![0, 0] ∧ (cfg0.win 7).index t = ![0, 0]
    ∧ (cfg0.win 8).index t = ![0] ∧ (cfg0.win 9).index t = ![0, 0] ∧ (cfg0.win 10).index t = ![0] ∧ (cfg0.win 11).index t = ![0, 0]
    ∧ (cfg0.win 12).index t = ![0] ∧ (cfg0.win 13).index t = ![0, 0] ∧ (cfg0.win 14).index t = ![0, 0]
    ∧ (cfg0.win 15).index t = ![0, 0, 0] ∧ (cfg0.win 16).index t = ![0, 0, 0] ∧ (cfg0.win 17).index t = ![0, t.val]
    ∧ (cfg0.win 18).index t = ![t.val, 0] ∧ (cfg0.win 19).index t = ![0, t.val] ∧ (cfg0.win 20).index t = ![0, 0, 0]
    ∧ (cfg0.win 21).index t = ![0, 0, 0] := by decide +kernel

/-- Where the blocks of the second pipeline lie. -/
theorem index1 : ∀ t : Fin cfg1.N,
    (cfg1.win 0).index t = ![t.val, 0] ∧ (cfg1.win 1).index t = ![0, t.val] ∧ (cfg1.win 2).index t = ![0, 0, 0] ∧ (cfg1.win 3).index t = ![0, 0, 0]
    ∧ (cfg1.win 4).index t = ![0, 0] ∧ (cfg1.win 5).index t = ![0, 0] ∧ (cfg1.win 6).index t = ![0, 0] ∧ (cfg1.win 7).index t = ![0, 0]
    ∧ (cfg1.win 8).index t = ![0, 0] ∧ (cfg1.win 9).index t = ![0, 0] ∧ (cfg1.win 10).index t = ![0, t.val]
    ∧ (cfg1.win 11).index t = ![t.val, 0] := by decide +kernel

/-- A point and a row of its block give a row of the array. -/
theorem row_lt (t : Fin cfg0.N) (n : Fin 4096) : t.val * 4096 + n.val < 65536 := by
  have := Nat.lt_of_lt_of_eq t.isLt N_0
  omega

theorem sample_eq (s : Fin 16) (n : Fin 4096) (h : s.val * 4096 + n.val < 65536) :
    (⟨(pt0 s.val).val * 4096 + n.val, row_lt _ n⟩ : Fin 65536) = ⟨s.val * 4096 + n.val, h⟩ :=
  Fin.ext (congrArg (· * 4096 + n.val) (Nat.mod_eq_of_lt s.isLt))

/-- Where an element of a block lies in its array. -/
theorem emb_z (t : Fin cfg0.N) (j : Fin 3) (n : Fin 4096) :
    (win0_17.blk t).view.emb (ix2 j n) = (ix2 j ⟨t.val * 4096 + n.val, row_lt t n⟩ : S3x65536.Idx) := by
  blk_ext [index0 t]

@[inherit_doc emb_z]
theorem emb_xb (t : Fin cfg0.N) (n : Fin 4096) (j : Fin 512) :
    (win0_18.blk t).view.emb (ix2 n j) = (ix2 ⟨t.val * 4096 + n.val, row_lt t n⟩ j : S65536x512.Idx) := by
  blk_ext [index0 t]

@[inherit_doc emb_z]
theorem emb_dzb (t : Fin cfg0.N) (j : Fin 3) (n : Fin 4096) :
    (win0_19.blk t).view.emb (ix2 j n) = (ix2 j ⟨t.val * 4096 + n.val, row_lt t n⟩ : S3x65536.Idx) := by
  blk_ext [index0 t]

@[inherit_doc emb_z]
theorem emb_dz (t : Fin cfg1.N) (j : Fin 3) (n : Fin 4096) :
    (win1_10.blk t).view.emb (ix2 j n) = (ix2 j ⟨t.val * 4096 + n.val, row_lt t n⟩ : S3x65536.Idx) := by
  blk_ext [index1 t]

@[inherit_doc emb_z]
theorem emb_dxb (t : Fin cfg1.N) (n : Fin 4096) (j : Fin 512) :
    (win1_11.blk t).view.emb (ix2 n j) = (ix2 ⟨t.val * 4096 + n.val, row_lt t n⟩ j : S65536x512.Idx) := by
  blk_ext [index1 t]

/-! ## The first pipeline -/

section Stage0

variable (V : (c : Dev nD) → (b : Ref sig .tc) → Buf (Elt Ideal) ((c : Thread nD τ).loc b)) (c : Dev nD)

/-- What the first pipeline reads is a problem's data: the biases and the library's selectors are held in the shapes it takes them in. -/
structure Holds (D : Data) : Prop where
  x : ∀ n i, (V c main_arg0 (ix2 n i) : EReal) = D.x n i
  ew0 : ∀ i j, (V c main_arg3 (ix2 i j) : EReal) = D.enc.W0 i j
  eb0 : ∀ j, (V c main_arg4 (ix1 j) : EReal) = D.enc.b0 j
  ew1 : ∀ i j, (V c main_arg5 (ix2 i j) : EReal) = D.enc.W1 i j
  eb1 : ∀ j, (V c main_arg6 (ix1 j) : EReal) = D.enc.b1 j
  ew2 : ∀ i j, (V c main_arg7 (ix2 i j) : EReal) = D.enc.W2 i j
  eb2 : ∀ j, (V c main_v1 (ix2 j 0) : EReal) = D.enc.b2 j
  dw0 : ∀ i j, (V c main_arg9 (ix2 i j) : EReal) = D.dec.W0 i j
  db0 : ∀ j, (V c main_arg10 (ix1 j) : EReal) = D.dec.b0 j
  dw1 : ∀ i j, (V c main_arg11 (ix2 i j) : EReal) = D.dec.W1 i j
  db1 : ∀ j, (V c main_arg12 (ix1 j) : EReal) = D.dec.b1 j
  dw2 : ∀ i j, (V c main_arg13 (ix2 i j) : EReal) = D.dec.W2 i j
  db2 : ∀ j, (V c main_arg14 (ix1 j) : EReal) = D.dec.b2 j
  Ew : ∀ k j, (V c main_arg15 (ix2 k j) : EReal) = D.Ew k j
  Eb : ∀ j, (V c main_v2 (ix2 j 0) : EReal) = D.Eb j
  theta : ∀ (u : Fin 3 → EReal) (k : Fin 22),
    selected (V c main_cst) (V c main_v0) 0 u k * selected (V c main_cst) (V c main_v0) 1 u k * selected (V c main_cst) (V c main_v0) 2 u k
      = theta u k

variable {V c} {D : Data} (H : Holds V c D)
include H

theorem encN_eq (t : Fin cfg0.N) : (in0 V c t).encN = D.enc := by
  have h0 : ∀ i j, (in0 V c t).encN.W0 i j = D.enc.W0 i j := fun i j => by
    rw [← H.ew0]; dsimp only [In0.encN, in0]; blk_ext [blk0, index0 t]
  have h1 : ∀ j, (in0 V c t).encN.b0 j = D.enc.b0 j := fun j => by
    rw [← H.eb0]; dsimp only [In0.encN, in0]; blk_ext [blk0, index0 t]
  have h2 : ∀ i j, (in0 V c t).encN.W1 i j = D.enc.W1 i j := fun i j => by
    rw [← H.ew1]; dsimp only [In0.encN, in0]; blk_ext [blk0, index0 t]
  have h3 : ∀ j, (in0 V c t).encN.b1 j = D.enc.b1 j := fun j => by
    rw [← H.eb1]; dsimp only [In0.encN, in0]; blk_ext [blk0, index0 t]
  have h4 : ∀ i j, (in0 V c t).encN.W2 i j = D.enc.W2 i j := fun i j => by
    rw [← H.ew2]; dsimp only [In0.encN, in0]; blk_ext [blk0, index0 t]
  have h5 : ∀ j, (in0 V c t).encN.b2 j = D.enc.b2 j := fun j => by
    rw [← H.eb2]; dsimp only [In0.encN, in0]; blk_ext [blk0, index0 t]
  exact Net.ext (funext₂ h0) (funext h1) (funext₂ h2) (funext h3) (funext₂ h4) (funext h5)

theorem decN_eq (t : Fin cfg0.N) : (in0 V c t).decN = D.dec := by
  have h0 : ∀ i j, (in0 V c t).decN.W0 i j = D.dec.W0 i j := fun i j => by
    rw [← H.dw0]; dsimp only [In0.decN, in0]; blk_ext [blk0, index0 t]
  have h1 : ∀ j, (in0 V c t).decN.b0 j = D.dec.b0 j := fun j => by
    rw [← H.db0]; dsimp only [In0.decN, in0]; blk_ext [blk0, index0 t]
  have h2 : ∀ i j, (in0 V c t).decN.W1 i j = D.dec.W1 i j := fun i j => by
    rw [← H.dw1]; dsimp only [In0.decN, in0]; blk_ext [blk0, index0 t]
  have h3 : ∀ j, (in0 V c t).decN.b1 j = D.dec.b1 j := fun j => by
    rw [← H.db1]; dsimp only [In0.decN, in0]; blk_ext [blk0, index0 t]
  have h4 : ∀ i j, (in0 V c t).decN.W2 i j = D.dec.W2 i j := fun i j => by
    rw [← H.dw2]; dsimp only [In0.decN, in0]; blk_ext [blk0, index0 t]
  have h5 : ∀ j, (in0 V c t).decN.b2 j = D.dec.b2 j := fun j => by
    rw [← H.db2]; dsimp only [In0.decN, in0]; blk_ext [blk0, index0 t]
  exact Net.ext (funext₂ h0) (funext h1) (funext₂ h2) (funext h3) (funext₂ h4) (funext h5)

theorem row_eq (t : Fin cfg0.N) (n : Fin 4096) : (in0 V c t).row n = D.x ⟨t.val * 4096 + n.val, row_lt t n⟩ := by
  funext i
  rw [← H.x]; dsimp only [In0.row, in0]; blk_ext [blk0, index0 t]

/-- A point's codes, reconstructed rows and predicted derivatives are the problem's. -/
theorem point_z (t : Fin cfg0.N) (n : Fin 4096) (j : Fin 3) :
    ((in0 V c t).z (ix2 j n) : EReal) = D.z ⟨t.val * 4096 + n.val, row_lt t n⟩ j := by
  rw [In0.z_eq, encN_eq H, row_eq H]; rfl

@[inherit_doc point_z]
theorem point_xb (t : Fin cfg0.N) (n : Fin 4096) (i : Fin 512) :
    ((in0 V c t).xb (ix2 n i) : EReal) = D.xb ⟨t.val * 4096 + n.val, row_lt t n⟩ i := by
  rw [In0.xb_eq, encN_eq H, decN_eq H, row_eq H]; rfl

@[inherit_doc point_z]
theorem point_dzb (t : Fin cfg0.N) (n : Fin 4096) (j : Fin 3) :
    ((in0 V c t).dzb (ix2 j n) : EReal) = D.dzb ⟨t.val * 4096 + n.val, row_lt t n⟩ j := by
  have hS : ∀ (i a : Fin 3) (k : Fin 22), (in0 V c t).x15 (ix3 i a k) = V c main_cst (ix3 i a k) := fun i a k => by
    dsimp only [in0]; blk_ext [blk0, index0 t]
  have hs : ∀ (i : Fin 3) (k : Fin 22), (in0 V c t).x16 (ix3 i k 0) = V c main_v0 (ix3 i k 0) := fun i k => by
    dsimp only [in0]; blk_ext [blk0, index0 t]
  have hw : ∀ (k : Fin 22), (in0 V c t).x13 (ix2 k j) = V c main_arg15 (ix2 k j) := fun k => by
    dsimp only [in0]; blk_ext [blk0, index0 t]
  have hb : (in0 V c t).x14 (ix2 j 0) = V c main_v2 (ix2 j 0) := by
    dsimp only [in0]; blk_ext [blk0, index0 t]
  rw [In0.dzb_eq, encN_eq H, row_eq H, hb, H.Eb]
  have hf : ∀ i u k, (in0 V c t).factor i u k = selected (V c main_cst) (V c main_v0) i u k := fun i u k => by
    unfold In0.factor selected
    rw [hs]
    exact congrArg (· + _) (Finset.sum_congr rfl fun a _ => by rw [hS])
  simp only [hf, hw, H.Ew, H.theta]
  exact congrArg (· + _) (Finset.sum_congr rfl fun k _ => mul_comm _ _)

/-- The sixteen points' sums make the sum over all samples. -/
theorem geAcc_eq (a : Fin 256) (b : Fin 128) :
    (geAcc V c 15 (ix3 0 a b) : EReal) = ∑ n, slope (D.enc.pre0 (D.x n) a) * slope (D.enc.pre1 (D.x n) b) := by
  have h : ∀ k, (geAcc V c k (ix3 0 a b) : EReal) = ∑ s ∈ Finset.range (k + 1), (in0 V c (pt0 s)).geTerm a b := by
    intro k
    induction k with
    | zero => rw [Finset.sum_range_one]; exact In0.geFirst_eq _ a b
    | succ k ih => rw [Finset.sum_range_succ, ← ih]; exact In0.geNext_eq _ _ a b
  rw [h, Finset.sum_range]
  refine Fin.sum_mul_add_congr fun s n h => ?_
  rw [encN_eq H, row_eq H, sample_eq]

theorem gdAcc_eq (a : Fin 128) (b : Fin 256) :
    (gdAcc V c 15 (ix3 0 a b) : EReal) = ∑ n, slope (D.dec.pre0 (D.z n) a) * slope (D.dec.pre1 (D.z n) b) := by
  have h : ∀ k, (gdAcc V c k (ix3 0 a b) : EReal) = ∑ s ∈ Finset.range (k + 1), (in0 V c (pt0 s)).gdTerm a b := by
    intro k
    induction k with
    | zero => rw [Finset.sum_range_one]; exact In0.gdFirst_eq _ a b
    | succ k ih => rw [Finset.sum_range_succ, ← ih]; exact In0.gdNext_eq _ _ a b
  rw [h, Finset.sum_range]
  refine Fin.sum_mul_add_congr fun s n h => ?_
  rw [encN_eq H, decN_eq H, row_eq H, sample_eq]
  rfl

omit H in
/-- What the body leaves in the result windows' buffers. -/
theorem after0 (t : Fin cfg0.N) :
    (dat0 V c).after 17 t = (in0 V c t).z ∧ (dat0 V c).after 18 t = (in0 V c t).xb ∧ (dat0 V c).after 19 t = (in0 V c t).dzb :=
  ⟨by dsimp only [dat0], by dsimp only [dat0], by dsimp only [dat0]⟩

/-- The first pipeline's arrays. -/
theorem arr_z : (dat0 V c).arrAt 17 cfg0.N = fun i : S3x65536.Idx => D.z (i 1) (i 0) := by
  refine (dat0 V c).arrAt_eq_of_covers 17 _ (by decide +kernel) fun t hf y => ?_
  blk_simp
  rw [(after0 t).1]
  obtain ⟨j, n, rfl⟩ : ∃ (j : Fin 3) (n : Fin 4096), y = ix2 j n := ⟨y 0, y 1, eq_ix2 y⟩
  exact (point_z H t n j).trans (congrArg₂ D.z (congrFun (emb_z t j n) 1).symm (congrFun (emb_z t j n) 0).symm)

@[inherit_doc arr_z]
theorem arr_xb : (dat0 V c).arrAt 18 cfg0.N = fun i : S65536x512.Idx => D.xb (i 0) (i 1) := by
  refine (dat0 V c).arrAt_eq_of_covers 18 _ (by decide +kernel) fun t hf y => ?_
  blk_simp
  rw [(after0 t).2.1]
  obtain ⟨n, j, rfl⟩ : ∃ (n : Fin 4096) (j : Fin 512), y = ix2 n j := ⟨y 0, y 1, eq_ix2 y⟩
  exact (point_xb H t n j).trans (congrArg₂ D.xb (congrFun (emb_xb t n j) 0).symm (congrFun (emb_xb t n j) 1).symm)

@[inherit_doc arr_z]
theorem arr_dzb : (dat0 V c).arrAt 19 cfg0.N = fun i : S3x65536.Idx => D.dzb (i 1) (i 0) := by
  refine (dat0 V c).arrAt_eq_of_covers 19 _ (by decide +kernel) fun t hf y => ?_
  blk_simp
  rw [(after0 t).2.2]
  obtain ⟨j, n, rfl⟩ : ∃ (j : Fin 3) (n : Fin 4096), y = ix2 j n := ⟨y 0, y 1, eq_ix2 y⟩
  exact (point_dzb H t n j).trans (congrArg₂ D.dzb (congrFun (emb_dzb t j n) 1).symm (congrFun (emb_dzb t j n) 0).symm)

omit H in
@[inherit_doc arr_z]
theorem arr_ge : (dat0 V c).arrAt 20 cfg0.N = geAcc V c 15 := by
  refine (dat0 V c).arrAt_eq_of_after_last 20 (pt0 15) (by decide +kernel) _ fun j => ?_
  blk_simp
  rfl

omit H in
@[inherit_doc arr_z]
theorem arr_gd : (dat0 V c).arrAt 21 cfg0.N = gdAcc V c 15 := by
  refine (dat0 V c).arrAt_eq_of_after_last 21 (pt0 15) (by decide +kernel) _ fun j => ?_
  blk_simp
  rfl

end Stage0

/-! ## The second pipeline -/

section Stage1

variable (V : (c : Dev nD) → (b : Ref sig .tc) → Buf (Elt Ideal) ((c : Thread nD τ).loc b)) (c : Dev nD)

/-- What the second pipeline reads is a problem's data and what the first pipeline made of it. -/
structure Holds1 (D : Data) : Prop where
  dx : ∀ n i, V c main_arg1 (ix2 n i) = D.dx n i
  dzb : ∀ l n, V c main_v3_2 (ix2 l n) = D.dzb n l
  ge : ∀ a b, V c main_v3_3 (ix3 0 a b) = ∑ n, slope (D.enc.pre0 (D.x n) a) * slope (D.enc.pre1 (D.x n) b)
  gd : ∀ a b, V c main_v3_4 (ix3 0 a b) = ∑ n, slope (D.dec.pre0 (D.z n) a) * slope (D.dec.pre1 (D.z n) b)
  ew0 : ∀ i j, V c main_arg3 (ix2 i j) = D.enc.W0 i j
  ew1 : ∀ i j, V c main_arg5 (ix2 i j) = D.enc.W1 i j
  ew2 : ∀ i j, V c main_arg7 (ix2 i j) = D.enc.W2 i j
  dw0 : ∀ i j, V c main_arg9 (ix2 i j) = D.dec.W0 i j
  dw1 : ∀ i j, V c main_arg11 (ix2 i j) = D.dec.W1 i j
  dw2 : ∀ i j, V c main_arg13 (ix2 i j) = D.dec.W2 i j

variable {V c} {D : Data} (H : Holds1 V c D)
include H

/-- The encoder's Jacobian, -/
theorem jetOf_eq (i : Fin 512) (l : Fin 3) : (jetOf V c (ix2 i l) : EReal) = D.enc.jacKer ((1 / 65536 : ℝ) : EReal) D.x l i := by
  have hg : ∀ a b, (blk1 V c 2 first1 (ix3 0 a b) : EReal) = ∑ n, slope (D.enc.pre0 (D.x n) a) * slope (D.enc.pre1 (D.x n) b) := fun a b => by
    rw [← H.ge]; blk_ext [blk1, index1 first1]
  have h0 : ∀ i j, (blk1 V c 4 first1 (ix2 i j) : EReal) = D.enc.W0 i j := fun i j => by
    rw [← H.ew0]; blk_ext [blk1, index1 first1]
  have h1 : ∀ i j, (blk1 V c 5 first1 (ix2 i j) : EReal) = D.enc.W1 i j := fun i j => by
    rw [← H.ew1]; blk_ext [blk1, index1 first1]
  have h2 : ∀ i j, (blk1 V c 6 first1 (ix2 i j) : EReal) = D.enc.W2 i j := fun i j => by
    rw [← H.ew2]; blk_ext [blk1, index1 first1]
  unfold jetOf
  rw [jet_eq]
  simp only [hg, h0, h1, h2]
  rfl

/-- and the decoder's, whose last product the pipeline takes from the left. -/
theorem jdtOf_eq (l : Fin 3) (i : Fin 512) :
    (jdtOf V c (ix2 l i) : EReal)
      = ∑ b, (∑ a, D.dec.W0 l a * (D.dec.W1 a b * ((∑ n, slope (D.dec.pre0 (D.z n) a) * slope (D.dec.pre1 (D.z n) b)) * ((1 / 65536 : ℝ) : EReal))))
          * D.dec.W2 b i := by
  have hg : ∀ a b, (blk1 V c 3 first1 (ix3 0 a b) : EReal) = ∑ n, slope (D.dec.pre0 (D.z n) a) * slope (D.dec.pre1 (D.z n) b) := fun a b => by
    rw [← H.gd]; blk_ext [blk1, index1 first1]
  have h0 : ∀ i j, (blk1 V c 7 first1 (ix2 i j) : EReal) = D.dec.W0 i j := fun i j => by
    rw [← H.dw0]; blk_ext [blk1, index1 first1]
  have h1 : ∀ i j, (blk1 V c 8 first1 (ix2 i j) : EReal) = D.dec.W1 i j := fun i j => by
    rw [← H.dw1]; blk_ext [blk1, index1 first1]
  have h2 : ∀ i j, (blk1 V c 9 first1 (ix2 i j) : EReal) = D.dec.W2 i j := fun i j => by
    rw [← H.dw2]; blk_ext [blk1, index1 first1]
  unfold jdtOf
  rw [jdt_eq]
  simp only [hg, h0, h1, h2]

omit H in
/-- What the body leaves in the result windows' buffers. -/
theorem after1 (t : Fin cfg1.N) :
    (dat1 V c).after 10 t = k1_pay3 (jetOf V c) (blk1 V c 0 t) ∧ (dat1 V c).after 11 t = k1_pay4 (blk1 V c 1 t) (jdtOf V c) :=
  ⟨by dsimp only [dat1], by dsimp only [dat1]⟩

/-- The second pipeline's result arrays, at finite outer weights. -/
theorem arr_dz (h0 : ∀ i a, ∃ w : ℝ, D.enc.W0 i a = w) (h2 : ∀ b l, ∃ w : ℝ, D.enc.W2 b l = w) :
    (dat1 V c).arrAt 10 cfg1.N = fun i : S3x65536.Idx => D.dz (i 1) (i 0) := by
  refine (dat1 V c).arrAt_eq_of_covers 10 _ (by decide +kernel) fun t hf y => ?_
  blk_simp
  rw [(after1 t).1]
  obtain ⟨l, n, rfl⟩ : ∃ (l : Fin 3) (n : Fin 4096), y = ix2 l n := ⟨y 0, y 1, eq_ix2 y⟩
  have hx : ∀ i, (blk1 V c 0 t (ix2 n i) : EReal) = D.dx ⟨t.val * 4096 + n.val, row_lt t n⟩ i := fun i => by
    rw [← H.dx]; blk_ext [blk1, index1 t]
  have hp : (k1_pay3 (jetOf V c) (blk1 V c 0 t) (ix2 l n) : EReal) = D.dz ⟨t.val * 4096 + n.val, row_lt t n⟩ l := by
    rw [dz_eq]
    unfold Data.dz
    exact Finset.sum_congr rfl fun i _ => by
      rw [hx, jetOf_eq H, ← Net.jac_eq D.enc D.x 65536 (by norm_num) h0 h2 l i]
  exact hp.trans (congrArg₂ D.dz (congrFun (emb_dz t l n) 1).symm (congrFun (emb_dz t l n) 0).symm)

@[inherit_doc arr_dz]
theorem arr_dxb (h0 : ∀ i a, ∃ w : ℝ, D.dec.W0 i a = w) (h2 : ∀ b l, ∃ w : ℝ, D.dec.W2 b l = w) :
    (dat1 V c).arrAt 11 cfg1.N = fun i : S65536x512.Idx => D.dxb (i 0) (i 1) := by
  refine (dat1 V c).arrAt_eq_of_covers 11 _ (by decide +kernel) fun t hf y => ?_
  blk_simp
  rw [(after1 t).2]
  obtain ⟨n, i, rfl⟩ : ∃ (n : Fin 4096) (i : Fin 512), y = ix2 n i := ⟨y 0, y 1, eq_ix2 y⟩
  have hx : ∀ l, (blk1 V c 1 t (ix2 l n) : EReal) = D.dzb ⟨t.val * 4096 + n.val, row_lt t n⟩ l := fun l => by
    rw [← H.dzb]; blk_ext [blk1, index1 t]
  have hp : (k1_pay4 (blk1 V c 1 t) (jdtOf V c) (ix2 n i) : EReal) = D.dxb ⟨t.val * 4096 + n.val, row_lt t n⟩ i := by
    rw [dxb_eq]
    unfold Data.dxb
    exact Finset.sum_congr rfl fun l _ => by
      rw [hx, jdtOf_eq H, Net.jac_assoc D.dec D.z _ h0 h2 i l, ← Net.jac_eq D.dec D.z 65536 (by norm_num) h0 h2 i l]
  exact hp.trans (congrArg₂ D.dxb (congrFun (emb_dxb t n i) 0).symm (congrFun (emb_dxb t n i) 1).symm)

end Stage1

end Sindy
-- ==== Proof.KernelValue.lean ====
module

public import proofs.«01_k».proof.Proof.Arrays
public import Idealize.ShloMosaic.Lib.Tactic

/-! What the kernel's five results are, element by element, at finite outer weights. -/

@[expose] public section

set_option maxRecDepth 16384

noncomputable section

namespace Sindy

open Cert.KernelIdeal Cert.KernelIdeal.Gen
open Idealize.ShloMosaic Idealize.ShloMosaic.TcCoe

/-! ## The library's selectors -/

/-- The coordinates that the library's terms multiply; a place with none holds a one. -/
def monomial (i : Fin 3) (k : Fin 22) : Option (Fin 3) :=
  (![![none, none, none, some 0, some 1, some 2, some 0, some 0, some 0, some 1, some 1, some 2,
      some 0, some 0, some 0, some 0, some 0, some 0, some 1, some 1, some 1, some 2],
    ![none, none, none, none, none, none, some 0, some 1, some 2, some 1, some 2, some 2,
      some 0, some 0, some 0, some 1, some 1, some 2, some 1, some 1, some 2, some 2],
    ![none, none, none, none, none, none, none, none, none, none, none, none,
      some 0, some 1, some 2, some 1, some 2, some 2, some 1, some 2, some 2, some 2]] : Fin 3 → Fin 22 → Option (Fin 3)) i k

theorem lit0_eq : ∀ (i a : Fin 3) (k : Fin 22), lit0 (S3x3x22.rowMajor (ix3 i a k)) = if monomial i k = some a then 0x3F800000#32 else 0#32 := by
  decide +kernel

theorem lit1_eq : ∀ (i : Fin 3) (k : Fin 22), lit1 (S3x22.rowMajor (ix2 i k)) = if monomial i k = none then 0x3F800000#32 else 0#32 := by
  decide +kernel

theorem ofBits_one : Ideal.ofBits .f32 0x3F800000#32 = 1 := by
  simp [Ideal.ofBits, Ideal.ieee]; norm_num [← EReal.coe_mul]

theorem ofBits_zero : Ideal.ofBits .f32 0#32 = 0 := by
  simp [Ideal.ofBits, Ideal.ieee]

/-- A selector picks its coordinate. -/
theorem selected_eq (S : S3x3x22.Idx → EReal) (s : S3x22x1.Idx → EReal)
    (hS : ∀ i a k, S (ix3 i a k) = Ideal.ofBits .f32 (lit0 (S3x3x22.rowMajor (ix3 i a k))))
    (hs : ∀ i k, s (ix3 i k 0) = Ideal.ofBits .f32 (lit1 (S3x22.rowMajor (ix2 i k)))) (i : Fin 3) (u : Fin 3 → EReal) (k : Fin 22) :
    selected S s i u k = (monomial i k).elim 1 u := by
  unfold selected
  have h : ∀ a, S (ix3 i a k) * u a = if monomial i k = some a then u a else 0 := fun a => by
    rw [hS, lit0_eq]
    split
    · rw [ofBits_one, one_mul]
    · rw [ofBits_zero, zero_mul]
  simp only [h, hs, lit1_eq]
  cases monomial i k with
  | none => simp [ofBits_one]
  | some a => simp [ofBits_zero]

/-- Three selectors make a term of the library. -/
theorem theta_eq (u : Fin 3 → EReal) (k : Fin 22) :
    (monomial 0 k).elim 1 u * (monomial 1 k).elim 1 u * (monomial 2 k).elim 1 u = theta u k := by
  fin_cases k <;> simp [monomial, theta]

variable (m : (ℓ : Loc nD τ sig) → Buf (Elt Ideal) ℓ) (ρ : Dev nD → PrngReg) (c : Dev nD)

/-- The problem as the kernel's argument buffers hold it. -/
def kerData : Data :=
  .of (m ((c : Thread nD τ).loc main_arg0)) (m ((c : Thread nD τ).loc main_arg1))
    (.of (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)))
    (.of (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)))
    (m ((c : Thread nD τ).loc main_arg15)) (m ((c : Thread nD τ).loc main_arg16))

/-- What the host operations before the first pipeline leave. -/
theorem host_cst (i a : Fin 3) (k : Fin 22) :
    (at1 m ρ c main_cst (ix3 i a k) : EReal) = Ideal.ofBits .f32 (lit0 (S3x3x22.rowMajor (ix3 i a k))) := by
  unfold at1 W1 hostOps0
  after_results
  rfl

@[inherit_doc host_cst]
theorem host_v0 (i : Fin 3) (k : Fin 22) :
    (at1 m ρ c main_v0 (ix3 i k 0) : EReal) = Ideal.ofBits .f32 (lit1 (S3x22.rowMajor (ix2 i k))) := by
  unfold at1 W1 hostOps0
  after_results
  pointwise

@[inherit_doc host_cst]
theorem host_v1 (j : Fin 3) : (at1 m ρ c main_v1 (ix2 j 0) : EReal) = (kerData m c).enc.b2 j := by
  unfold at1 W1 hostOps0
  after_results
  pointwise
  rfl

@[inherit_doc host_cst]
theorem host_v2 (j : Fin 3) : (at1 m ρ c main_v2 (ix2 j 0) : EReal) = (kerData m c).Eb j := by
  unfold at1 W1 hostOps0
  after_results
  pointwise
  rfl

theorem at1_arg (a : Ref sig .tc) (ha : a ∈ argList) : at1 m ρ c a = m ((c : Thread nD τ).loc a) := W1_arg m ρ c a ha
theorem at2_arg (a : Ref sig .tc) (ha : a ∈ argList) : at2 m ρ c a = m ((c : Thread nD τ).loc a) := W2_arg m ρ c a ha

/-- The first pipeline starts on the problem's data. -/
theorem holds0 : Holds (at1 m ρ) c (kerData m c) where
  x _ _ := congrFun (at1_arg m ρ c main_arg0 (by decide)) _
  ew0 _ _ := congrFun (at1_arg m ρ c main_arg3 (by decide)) _
  eb0 _ := congrFun (at1_arg m ρ c main_arg4 (by decide)) _
  ew1 _ _ := congrFun (at1_arg m ρ c main_arg5 (by decide)) _
  eb1 _ := congrFun (at1_arg m ρ c main_arg6 (by decide)) _
  ew2 _ _ := congrFun (at1_arg m ρ c main_arg7 (by decide)) _
  eb2 j := host_v1 m ρ c j
  dw0 _ _ := congrFun (at1_arg m ρ c main_arg9 (by decide)) _
  db0 _ := congrFun (at1_arg m ρ c main_arg10 (by decide)) _
  dw1 _ _ := congrFun (at1_arg m ρ c main_arg11 (by decide)) _
  db1 _ := congrFun (at1_arg m ρ c main_arg12 (by decide)) _
  dw2 _ _ := congrFun (at1_arg m ρ c main_arg13 (by decide)) _
  db2 _ := congrFun (at1_arg m ρ c main_arg14 (by decide)) _
  Ew _ _ := congrFun (at1_arg m ρ c main_arg15 (by decide)) _
  Eb j := host_v2 m ρ c j
  theta u k := by
    have h := selected_eq (at1 m ρ c main_cst) (at1 m ρ c main_v0) (host_cst m ρ c) (host_v0 m ρ c)
    rw [h, h, h]
    exact theta_eq u k

/-- The second pipeline starts on the same data and what the first left. -/
theorem holds1 : Holds1 (at2 m ρ) c (kerData m c) where
  dx _ _ := congrFun (at2_arg m ρ c main_arg1 (by decide)) _
  dzb l n := congrFun ((W2_arr m ρ c 19).trans (arr_dzb (holds0 m ρ c))) (ix2 l n)
  ge a b := (congrFun ((W2_arr m ρ c 20).trans arr_ge) (ix3 0 a b)).trans (geAcc_eq (holds0 m ρ c) a b)
  gd a b := (congrFun ((W2_arr m ρ c 21).trans arr_gd) (ix3 0 a b)).trans (gdAcc_eq (holds0 m ρ c) a b)
  ew0 _ _ := congrFun (at2_arg m ρ c main_arg3 (by decide)) _
  ew1 _ _ := congrFun (at2_arg m ρ c main_arg5 (by decide)) _
  ew2 _ _ := congrFun (at2_arg m ρ c main_arg7 (by decide)) _
  dw0 _ _ := congrFun (at2_arg m ρ c main_arg9 (by decide)) _
  dw1 _ _ := congrFun (at2_arg m ρ c main_arg11 (by decide)) _
  dw2 _ _ := congrFun (at2_arg m ρ c main_arg13 (by decide)) _

/-! ## The results -/

/-- The first result holds the encoded samples, -/
theorem ker_z : W4 m ρ c (Proc.devRef .tc main_v5) = fun i : S65536x3.Idx => (kerData m c).z (i 0) (i 1) := by
  have h : W3 m ρ c (Proc.devRef .tc main_v3_0) = fun i : S3x65536.Idx => (kerData m c).z (i 1) (i 0) :=
    (W3_of m ρ c main_v3_0 (by decide +kernel)).trans ((W2_arr m ρ c 17).trans (arr_z (holds0 m ρ c)))
  funext i
  unfold W4 hostOps2
  after_results
  pointwise
  exact congrFun h _

/-- the third the library's prediction, -/
theorem ker_dzb : W4 m ρ c (Proc.devRef .tc main_v7) = fun i : S65536x3.Idx => (kerData m c).dzb (i 0) (i 1) := by
  have h : W3 m ρ c (Proc.devRef .tc main_v3_2) = fun i : S3x65536.Idx => (kerData m c).dzb (i 1) (i 0) :=
    (W3_of m ρ c main_v3_2 (by decide +kernel)).trans ((W2_arr m ρ c 19).trans (arr_dzb (holds0 m ρ c)))
  funext i
  unfold W4 hostOps2
  after_results
  pointwise
  exact congrFun h _

/-- and the fourth the decoded samples. -/
theorem ker_xb : W4 m ρ c (Proc.devRef .tc main_v3_1) = fun i : S65536x512.Idx => (kerData m c).xb (i 0) (i 1) :=
  (W4_of m ρ c main_v3_1 (by decide)).trans ((W3_of m ρ c main_v3_1 (by decide +kernel)).trans ((W2_arr m ρ c 18).trans (arr_xb (holds0 m ρ c))))

/-- The second result holds the derivatives through the encoder's mean Jacobian, -/
theorem ker_dz (h0 : ∀ i a, ∃ w : ℝ, (kerData m c).enc.W0 i a = w) (h2 : ∀ b l, ∃ w : ℝ, (kerData m c).enc.W2 b l = w) :
    W4 m ρ c (Proc.devRef .tc main_v6) = fun i : S65536x3.Idx => (kerData m c).dz (i 0) (i 1) := by
  have h : W3 m ρ c (Proc.devRef .tc main_v4_0) = fun i : S3x65536.Idx => (kerData m c).dz (i 1) (i 0) :=
    (W3_arr m ρ c 10).trans (arr_dz (holds1 m ρ c) h0 h2)
  funext i
  unfold W4 hostOps2
  after_results
  pointwise
  exact congrFun h _

/-- and the fifth the prediction through the decoder's. -/
theorem ker_dxb (h0 : ∀ i a, ∃ w : ℝ, (kerData m c).dec.W0 i a = w) (h2 : ∀ b l, ∃ w : ℝ, (kerData m c).dec.W2 b l = w) :
    W4 m ρ c (Proc.devRef .tc main_v4_1) = fun i : S65536x512.Idx => (kerData m c).dxb (i 0) (i 1) :=
  (W4_of m ρ c main_v4_1 (by decide)).trans ((W3_arr m ρ c 11).trans (arr_dxb (holds1 m ρ c) h0 h2))

end Sindy
-- ==== Proof.RefValue.lean ====
module

public import proofs.«01_k».proof.Proof.Math
public import proofs.«01_k».proof.Proof.Gen.ReferenceIdeal.Run
public import Idealize.ShloMosaic.Lib.Pointwise
public import Idealize.ShloMosaic.Lib.Tactic.CleanTypes

/-! What the reference's five results are, element by element. -/

@[expose] public section

set_option maxRecDepth 16384

noncomputable section

namespace Sindy

open Idealize.ShloMosaic Idealize.ShloMosaic.TcCoe
open Cert.ReferenceIdeal Cert.ReferenceIdeal.Gen Cert.ReferenceIdeal.Value

variable (V : Valuation τ sig (Elt Ideal))

/-- The problem as the reference's argument buffers hold it. -/
def refData : Data :=
  .of (V (Proc.devRef .tc main_arg0)) (V (Proc.devRef .tc main_arg1))
    (.of (V (Proc.devRef .tc main_arg3)) (V (Proc.devRef .tc main_arg4)) (V (Proc.devRef .tc main_arg5)) (V (Proc.devRef .tc main_arg6))
      (V (Proc.devRef .tc main_arg7)) (V (Proc.devRef .tc main_arg8)))
    (.of (V (Proc.devRef .tc main_arg9)) (V (Proc.devRef .tc main_arg10)) (V (Proc.devRef .tc main_arg11)) (V (Proc.devRef .tc main_arg12))
      (V (Proc.devRef .tc main_arg13)) (V (Proc.devRef .tc main_arg14)))
    (V (Proc.devRef .tc main_arg15)) (V (Proc.devRef .tc main_arg16))

/-- The first result holds the encoded samples. -/
theorem ref_z (n : Fin 65536) (j : Fin 3) : (res_main_v23 V (ix2 n j) : EReal) = (refData V).z n j := by
  unfold res_main_v23
  clean_types
  pointwise
  rfl

/-- The encoder's hidden layers at each sample. -/
theorem ref_h0 (n : Fin 65536) (a : Fin 256) : (res_main_v33 V (ix2 n a) : EReal) = sigm ((refData V).enc.pre0 ((refData V).x n) a) := by
  unfold res_main_v33
  clean_types
  pointwise
  rfl

@[inherit_doc ref_h0]
theorem ref_h1 (n : Fin 65536) (b : Fin 128) : (res_main_v46 V (ix2 n b) : EReal) = sigm ((refData V).enc.pre1 ((refData V).x n) b) := by
  unfold res_main_v46
  clean_types
  pointwise
  simp only [ref_h0]
  rfl

/-- The decoder's hidden layers at each encoded sample. -/
theorem ref_k0 (n : Fin 65536) (a : Fin 128) : (res_main_v260 V (ix2 n a) : EReal) = sigm ((refData V).dec.pre0 ((refData V).z n) a) := by
  unfold res_main_v260
  clean_types
  pointwise
  simp only [ref_z]
  rfl

@[inherit_doc ref_k0]
theorem ref_k1 (n : Fin 65536) (b : Fin 256) : (res_main_v273 V (ix2 n b) : EReal) = sigm ((refData V).dec.pre1 ((refData V).z n) b) := by
  unfold res_main_v273
  clean_types
  pointwise
  simp only [ref_k0]
  rfl

/-- The fourth result holds the decoded samples. -/
theorem ref_xb (n : Fin 65536) (i : Fin 512) : (val6 V (Proc.devRef .tc main_v250) (ix2 n i) : EReal) = (refData V).xb n i := by
  rw [val6_main_v250]
  clean_types
  pointwise
  simp only [ref_z]
  rfl

/-- The third result holds the library's prediction. -/
theorem ref_dzb (n : Fin 65536) (j : Fin 3) : (val6 V (Proc.devRef .tc main_v226) (ix2 n j) : EReal) = (refData V).dzb n j := by
  rw [val6_main_v226]
  unfold res_main_v220
  clean_types
  pointwise
  simp only [ref_z]
  unfold Data.dzb aff
  refine congrArg₂ (· + ·) (Finset.sum_congr rfl fun k _ => congrArg₂ (· * ·) ?_ rfl) rfl
  generalize (refData V).z n = u
  fin_vals k with hk
  all_goals
    simp only [hk, Nat.reduceSub, Nat.reduceLT, ↓reduceDIte]
    rcases k with ⟨k, hlt⟩
    cases hk
    rfl

/-- A truth value as a number. -/
theorem uitofp_bit (b : BitVec 1) : (FloatOps.uitofp (F := Ideal) .f32 b : EReal) = if b = 1#1 then 1 else 0 := by
  have h : ∀ b : BitVec 1, b = 0#1 ∨ b = 1#1 := by decide
  rcases h b with rfl | rfl
  · show ((((0#1 : BitVec 1).toNat : ℝ)) : EReal) = _
    simp
  · show ((((1#1 : BitVec 1).toNat : ℝ)) : EReal) = _
    simp

/-- An entry of the identity matrix that the reference builds from two counts. -/
theorem eye_entry {N : ℕ} (hN : N ≤ 2 ^ 32) (l k : Fin N) :
    (FloatOps.uitofp (F := Ideal) .f32 (IntOp.cmpi .eq (IntOp.addi (BitVec.ofNat 32 ↑l) 0#32) (BitVec.ofNat 32 ↑k)) : EReal)
      = if k = l then 1 else 0 := by
  have hl := l.isLt
  have hk := k.isLt
  have h : (BitVec.ofNat 32 ↑l + 0#32 = BitVec.ofNat 32 ↑k) ↔ k = l := by
    rw [BitVec.add_zero]
    constructor
    · intro e
      have := congrArg BitVec.toNat e
      simp only [BitVec.toNat_ofNat] at this
      rw [Nat.mod_eq_of_lt (by omega), Nat.mod_eq_of_lt (by omega)] at this
      exact Fin.ext this.symm
    · rintro rfl; rfl
  by_cases e : k = l
  · subst e
    simp [IntOp.cmpi, IntOp.addi, uitofp_bit]
  · have h' : ¬BitVec.ofNat 32 ↑l = BitVec.ofNat 32 ↑k := fun e' => e (h.mp ((BitVec.add_zero _).trans e'))
    have h'' : (BitVec.ofNat 32 ↑l == BitVec.ofNat 32 ↑k) = false := beq_eq_false_iff_ne.mpr h'
    simp [IntOp.cmpi, IntOp.addi, e, h'', uitofp_bit]

/-- A product with the identity matrix. -/
theorem eye_sum {N : ℕ} (hN : N ≤ 2 ^ 32) (l : Fin N) (f : Fin N → EReal) :
    (∑ k : Fin N, (FloatOps.uitofp (F := Ideal) .f32 (IntOp.cmpi .eq (IntOp.addi (BitVec.ofNat 32 ↑l) 0#32) (BitVec.ofNat 32 ↑k)) : EReal) * f k) = f l := by
  simp only [eye_entry hN, ite_mul, one_mul, zero_mul, Finset.sum_ite_eq', Finset.mem_univ, ↓reduceIte]

/-- The second result holds the derivatives through the encoder's mean Jacobian. -/
theorem ref_dz (n : Fin 65536) (l : Fin 3) : (val6 V (Proc.devRef .tc main_v78) (ix2 n l) : EReal) = (refData V).dz n l := by
  rw [val6_main_v78, id_def]
  clean_types
  pointwise
  simp only [eye_sum (by norm_num : 3 ≤ 2 ^ 32), ref_h0, ref_h1, ofBits_count]
  rfl

/-- The fifth result holds the prediction through the decoder's mean Jacobian. -/
theorem ref_dxb (n : Fin 65536) (i : Fin 512) : (val6 V (Proc.devRef .tc main_v304) (ix2 n i) : EReal) = (refData V).dxb n i := by
  rw [val6_main_v304]
  unfold res_main_v304
  rw [← val6_main_v226]
  clean_types
  pointwise
  simp only [eye_sum (by norm_num : 512 ≤ 2 ^ 32), ref_k0, ref_k1, ofBits_count]
  exact Finset.sum_congr rfl fun l _ => congrArg₂ (· * ·) (ref_dzb V n l) rfl

end Sindy
-- ==== Proof.Algebraic.lean ====
module

public import proofs.«01_k».proof.Defs
public import proofs.«01_k».proof.Proof.Gen.Pre_outer_weights_finite
public import proofs.«01_k».proof.Proof.KernelValue
public import proofs.«01_k».proof.Proof.RefValue
public import proofs.«01_k».proof.Proof.Frames
public import Idealize.ShloMosaic.Adequacy
public import Idealize.ShloMosaic.Init

/-! The kernel and the reference leave equal results. -/

@[expose] public section

set_option maxRecDepth 16384

noncomputable section

namespace Sindy

open Idealize.ShloMosaic Idealize.ShloMosaic.TcCoe Idealize.ShloMosaic.StableHlo Idealize.SL.Sem

/-- An extended real whose absolute value is below infinity is a real number. -/
theorem real_of_abs_lt (x : EReal)
    (h : BitVec.ofBool (decide ((FloatOps.absf (F := Ideal) (φ := .f32) x : EReal) < Ideal.ofBits .f32 0x7F800000#32)) = 1#1) :
    ∃ w : ℝ, x = w := by
  have ht : Ideal.ofBits .f32 0x7F800000#32 = ⊤ := by simp [Ideal.ofBits, Ideal.ieee]
  rw [ht] at h
  induction x with
  | coe w => exact ⟨w, rfl⟩
  | top => exact absurd h (by simp [FloatOps.absf])
  | bot => exact absurd h (by simp [FloatOps.absf])

section

variable (m : (ℓ : Loc Cert.KernelIdeal.nD Cert.KernelIdeal.τ Cert.KernelIdeal.sig) → Buf (Elt Ideal) ℓ)

/-- The precondition makes the outer weights real numbers. -/
theorem outer_real (hpre : Cert.Pre_KernelIdeal_outer_weights_finite (hPre_outer_weights_finite := Cert.Pre_outer_weights_finite.Gen.facts) m)
    (c : Dev Cert.KernelIdeal.nD) :
    (∀ i a, ∃ w : ℝ, (kerData m c).enc.W0 i a = w) ∧ (∀ b l, ∃ w : ℝ, (kerData m c).enc.W2 b l = w)
      ∧ (∀ i a, ∃ w : ℝ, (kerData m c).dec.W0 i a = w) ∧ ∀ b l, ∃ w : ℝ, (kerData m c).dec.W2 b l = w := by
  obtain ⟨h1, h2, h3, h4⟩ := hpre c
  unfold Cert.Pre_outer_weights_finite.fn at h1 h2 h3 h4
  refine ⟨fun i a => real_of_abs_lt _ ?_, fun b l => real_of_abs_lt _ ?_, fun i a => real_of_abs_lt _ ?_, fun b l => real_of_abs_lt _ ?_⟩
  · have h := congrFun h1 (ix2 i a)
    pointwise at h
    exact h
  · have h := congrFun h2 (ix2 b l)
    pointwise at h
    exact h
  · have h := congrFun h3 (ix2 i a)
    pointwise at h
    exact h
  · have h := congrFun h4 (ix2 b l)
    pointwise at h
    exact h

end

/-- From memories that agree on the arguments and whose outer weights are finite, the kernel's and the reference's runs end with equal results and
    unchanged arguments. -/
theorem algebraic : Cert.algebraic_KernelIdeal_ReferenceIdeal_pre_outer_weights_finite
    (hKernelIdeal := Cert.KernelIdeal.Gen.facts) (hReferenceIdeal := Cert.ReferenceIdeal.Gen.facts)
    (hPre_outer_weights_finite := Cert.Pre_outer_weights_finite.Gen.facts) := by
  intro m g m' g' hpre hagree
  have hD : ∀ c, refData (launchContents m' c) = kerData m c := fun c => by
    obtain ⟨h0, h1, -, h3, h4, h5, h6, h7, h8, h9, h10, h11, h12, h13, h14, h15, h16⟩ := hagree c
    unfold refData kerData
    have net : ∀ {p q r s : ℕ} {w0 w0' : (⟨2, ![p, q]⟩ : Shape).Idx → EReal} {b0 b0' : (⟨1, ![q]⟩ : Shape).Idx → EReal}
        {w1 w1' : (⟨2, ![q, r]⟩ : Shape).Idx → EReal} {b1 b1' : (⟨1, ![r]⟩ : Shape).Idx → EReal}
        {w2 w2' : (⟨2, ![r, s]⟩ : Shape).Idx → EReal} {b2 b2' : (⟨1, ![s]⟩ : Shape).Idx → EReal},
        w0 = w0' → b0 = b0' → w1 = w1' → b1 = b1' → w2 = w2' → b2 = b2' → Net.of w0 b0 w1 b1 w2 b2 = Net.of w0' b0' w1' b1' w2' b2' := by
      rintro _ _ _ _ _ _ _ _ _ _ _ _ _ _ _ _ rfl rfl rfl rfl rfl rfl
      rfl
    have data : ∀ {x x' dx dx' : (⟨2, ![65536, 512]⟩ : Shape).Idx → EReal} {e e' : Net 512 256 128 3} {d d' : Net 3 128 256 512}
        {Ew Ew' : (⟨2, ![22, 3]⟩ : Shape).Idx → EReal} {Eb Eb' : (⟨1, ![3]⟩ : Shape).Idx → EReal},
        x = x' → dx = dx' → e = e' → d = d' → Ew = Ew' → Eb = Eb' → Data.of x dx e d Ew Eb = Data.of x' dx' e' d' Ew' Eb' := by
      rintro _ _ _ _ _ _ _ _ _ _ _ _ rfl rfl rfl rfl rfl rfl
      rfl
    exact data h0 h1 (net h3 h4 h5 h6 h7 h8) (net h9 h10 h11 h12 h13 h14) h15 h16
  have hu : ∀ b ∈ [Cert.KernelIdeal.main_v5, Cert.KernelIdeal.main_v6, Cert.KernelIdeal.main_v7, Cert.KernelIdeal.main_v3_1, Cert.KernelIdeal.main_v4_1],
      ¬ (Proc.devRef .tc b : DevRef Cert.KernelIdeal.τ Cert.KernelIdeal.sig).isScoped :=
    ListAll.forall_mem_of_all_decide (by decide +kernel)
  have hk : ∀ a ∈ argList, ¬ (Proc.devRef .tc a : DevRef Cert.KernelIdeal.τ Cert.KernelIdeal.sig).isScoped :=
    ListAll.forall_mem_of_all_decide (by decide +kernel)
  refine ⟨fun c => W4 m g c (Proc.devRef .tc Cert.KernelIdeal.main_v5), fun c => W4 m g c (Proc.devRef .tc Cert.KernelIdeal.main_v6),
    fun c => W4 m g c (Proc.devRef .tc Cert.KernelIdeal.main_v7), fun c => W4 m g c (Proc.devRef .tc Cert.KernelIdeal.main_v3_1),
    fun c => W4 m g c (Proc.devRef .tc Cert.KernelIdeal.main_v4_1), ?_, ?_⟩
  · refine (θ_run _ _ _).mono (fun r h c => ?_) (run m g)
    refine ⟨run_at m g h.1 c _ (hu _ (by decide)), run_at m g h.1 c _ (hu _ (by decide)), run_at m g h.1 c _ (hu _ (by decide)),
      run_at m g h.1 c _ (hu _ (by decide)), run_at m g h.1 c _ (hu _ (by decide)), ?_⟩
    repeat' apply And.intro
    all_goals exact run_arg m g h.1 c _ (by decide) (hk _ (by decide))
  · refine (θ_run _ _ _).mono (fun r h c => ?_) (Cert.ReferenceIdeal.Value.run (F := Ideal) m' g')
    obtain ⟨h23, h78, h226, h250, h304, hargs⟩ := h c
    obtain ⟨e0, e2, d0, d2⟩ := outer_real m hpre c
    refine ⟨h23.trans ?_, (h78.trans (Cert.ReferenceIdeal.Value.val6_main_v78 _).symm).trans ?_,
      (h226.trans (Cert.ReferenceIdeal.Value.val6_main_v226 _).symm).trans ?_, (h250.trans (Cert.ReferenceIdeal.Value.val6_main_v250 _).symm).trans ?_,
      (h304.trans (Cert.ReferenceIdeal.Value.val6_main_v304 _).symm).trans ?_, hargs⟩
    · refine Eq.trans (funext fun i => ?_) (ker_z m g c).symm
      rw [eq_ix2 i, ← hD c]
      exact ref_z _ _ _
    · refine Eq.trans (funext fun i => ?_) (ker_dz m g c e0 e2).symm
      rw [eq_ix2 i, ← hD c]
      exact ref_dz _ _ _
    · refine Eq.trans (funext fun i => ?_) (ker_dzb m g c).symm
      rw [eq_ix2 i, ← hD c]
      exact ref_dzb _ _ _
    · refine Eq.trans (funext fun i => ?_) (ker_xb m g c).symm
      rw [eq_ix2 i, ← hD c]
      exact ref_xb _ _ _
    · refine Eq.trans (funext fun i => ?_) (ker_dxb m g c d0 d2).symm
      rw [eq_ix2 i, ← hD c]
      exact ref_dxb _ _ _

end Sindy
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_outer_weights_finite
public import proofs.«01_k».proof.Proof.Frames
public import proofs.«01_k».proof.Proof.Algebraic
public import Idealize.ShloMosaic.Adequacy
public import Idealize.ShloMosaic.Init

@[expose] public section

set_option maxRecDepth 16384

noncomputable section

namespace Cert.Proof

open Idealize.ShloMosaic Idealize.SL.Sem

/-- The frame of the reference: its run leaves the arguments as they were, and it has no semaphore. -/
theorem quiescent_reference : Cert.quiescent_ReferenceIdeal := fun m g _ =>
  (θ_run _ _ _).mono (fun r h => ⟨fun c => (h c).2.2.2.2.2, sem_eq_zero_of_no_sems (by decide) r.2⟩)
    (Cert.ReferenceIdeal.Value.run (F := Ideal) m g)

/-- The frames of the three programs; the frames of the kernel and of the reference from memories with finite outer weights, which are the same
    statements of fewer memories; and the equality of the five results. -/
theorem claim : Cert.Claim := ⟨Cert.Kernel.Gen.facts, Cert.KernelIdeal.Gen.facts, Cert.ReferenceIdeal.Gen.facts,
  Cert.Pre_outer_weights_finite.Gen.facts, Sindy.quiescent_kernel, Sindy.quiescent_kernelIdeal,
  fun m g _ => Sindy.quiescent_kernelIdeal m g trivial, quiescent_reference, fun m g _ => quiescent_reference m g trivial, trivial,
  Sindy.algebraic⟩

end Cert.Proof

end
